-- ==== Defs.lean ====
def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Qu (m : (ℓ : Loc Cert.Qu.nD Cert.Qu.τ Cert.Qu.sig) → Buf (Elt Bits) ℓ) : Prop :=
  True

def Pre_QuIdeal (m : (ℓ : Loc Cert.QuIdeal.nD Cert.QuIdeal.τ Cert.QuIdeal.sig) → Buf (Elt Ideal) ℓ) : Prop :=
  True

def Pre_QuRefIdeal (m : (ℓ : Loc Cert.QuRefIdeal.nD Cert.QuRefIdeal.τ Cert.QuRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3))
      ∧ r.2.sem = fun _ => 0)

def quiescent_Qu [hQu : Cert.Qu.Facts] : Prop :=
  ∀ (m : (ℓ : Loc Cert.Qu.nD Cert.Qu.τ Cert.Qu.sig) → Buf (Elt Bits) ℓ) (g : Dev Cert.Qu.nD → PrngReg), Pre_Qu m →
    θ_run (Cert.Qu.defs (F := Bits)) (onTc (τ := Cert.Qu.τ) (Cert.Qu.main (F := Bits))) ⟨m, fun _ => 0, g⟩ (fun r => (∀ c : Dev Cert.Qu.nD,
      r.2.mem ((c.tc : Thread Cert.Qu.nD Cert.Qu.τ).loc Cert.Qu.main_arg0) = m ((c.tc : Thread Cert.Qu.nD Cert.Qu.τ).loc Cert.Qu.main_arg0)
      ∧ r.2.mem ((c.tc : Thread Cert.Qu.nD Cert.Qu.τ).loc Cert.Qu.main_arg1) = m ((c.tc : Thread Cert.Qu.nD Cert.Qu.τ).loc Cert.Qu.main_arg1)
      ∧ r.2.mem ((c.tc : Thread Cert.Qu.nD Cert.Qu.τ).loc Cert.Qu.main_arg2) = m ((c.tc : Thread Cert.Qu.nD Cert.Qu.τ).loc Cert.Qu.main_arg2)
      ∧ r.2.mem ((c.tc : Thread Cert.Qu.nD Cert.Qu.τ).loc Cert.Qu.main_arg3) = m ((c.tc : Thread Cert.Qu.nD Cert.Qu.τ).loc Cert.Qu.main_arg3)
      ∧ r.2.mem ((c.tc : Thread Cert.Qu.nD Cert.Qu.τ).loc Cert.Qu.main_arg4) = m ((c.tc : Thread Cert.Qu.nD Cert.Qu.τ).loc Cert.Qu.main_arg4)
      ∧ r.2.mem ((c.tc : Thread Cert.Qu.nD Cert.Qu.τ).loc Cert.Qu.main_arg5) = m ((c.tc : Thread Cert.Qu.nD Cert.Qu.τ).loc Cert.Qu.main_arg5)
      ∧ r.2.mem ((c.tc : Thread Cert.Qu.nD Cert.Qu.τ).loc Cert.Qu.main_arg6) = m ((c.tc : Thread Cert.Qu.nD Cert.Qu.τ).loc Cert.Qu.main_arg6))
      ∧ r.2.sem = fun _ => 0)

def quiescent_QuIdeal [hQuIdeal : Cert.QuIdeal.Facts] : Prop :=
  ∀ (m : (ℓ : Loc Cert.QuIdeal.nD Cert.QuIdeal.τ Cert.QuIdeal.sig) → Buf (Elt Ideal) ℓ) (g : Dev Cert.QuIdeal.nD → PrngReg), Pre_QuIdeal m →
    θ_run (Cert.QuIdeal.defs (F := Ideal)) (onTc (τ := Cert.QuIdeal.τ) (Cert.QuIdeal.main (F := Ideal))) ⟨m, fun _ => 0, g⟩ (fun r => (∀ c : Dev Cert.QuIdeal.nD,
      r.2.mem ((c.tc : Thread Cert.QuIdeal.nD Cert.QuIdeal.τ).loc Cert.QuIdeal.main_arg0) = m ((c.tc : Thread Cert.QuIdeal.nD Cert.QuIdeal.τ).loc Cert.QuIdeal.main_arg0)
      ∧ r.2.mem ((c.tc : Thread Cert.QuIdeal.nD Cert.QuIdeal.τ).loc Cert.QuIdeal.main_arg1) = m ((c.tc : Thread Cert.QuIdeal.nD Cert.QuIdeal.τ).loc Cert.QuIdeal.main_arg1)
      ∧ r.2.mem ((c.tc : Thread Cert.QuIdeal.nD Cert.QuIdeal.τ).loc Cert.QuIdeal.main_arg2) = m ((c.tc : Thread Cert.QuIdeal.nD Cert.QuIdeal.τ).loc Cert.QuIdeal.main_arg2)
      ∧ r.2.mem ((c.tc : Thread Cert.QuIdeal.nD Cert.QuIdeal.τ).loc Cert.QuIdeal.main_arg3) = m ((c.tc : Thread Cert.QuIdeal.nD Cert.QuIdeal.τ).loc Cert.QuIdeal.main_arg3)
      ∧ r.2.mem ((c.tc : Thread Cert.QuIdeal.nD Cert.QuIdeal.τ).loc Cert.QuIdeal.main_arg4) = m ((c.tc : Thread Cert.QuIdeal.nD Cert.QuIdeal.τ).loc Cert.QuIdeal.main_arg4)
      ∧ r.2.mem ((c.tc : Thread Cert.QuIdeal.nD Cert.QuIdeal.τ).loc Cert.QuIdeal.main_arg5) = m ((c.tc : Thread Cert.QuIdeal.nD Cert.QuIdeal.τ).loc Cert.QuIdeal.main_arg5)
      ∧ r.2.mem ((c.tc : Thread Cert.QuIdeal.nD Cert.QuIdeal.τ).loc Cert.QuIdeal.main_arg6) = m ((c.tc : Thread Cert.QuIdeal.nD Cert.QuIdeal.τ).loc Cert.QuIdeal.main_arg6))
      ∧ r.2.sem = fun _ => 0)

def quiescent_QuRefIdeal [hQuRefIdeal : Cert.QuRefIdeal.Facts] : Prop :=
  ∀ (m : (ℓ : Loc Cert.QuRefIdeal.nD Cert.QuRefIdeal.τ Cert.QuRefIdeal.sig) → Buf (Elt Ideal) ℓ) (g : Dev Cert.QuRefIdeal.nD → PrngReg), Pre_QuRefIdeal m →
    θ_run (Cert.QuRefIdeal.defs (F := Ideal)) (onTc (τ := Cert.QuRefIdeal.τ) (Cert.QuRefIdeal.main (F := Ideal))) ⟨m, fun _ => 0, g⟩ (fun r => (∀ c : Dev Cert.QuRefIdeal.nD,
      r.2.mem ((c.tc : Thread Cert.QuRefIdeal.nD Cert.QuRefIdeal.τ).loc Cert.QuRefIdeal.main_arg0) = m ((c.tc : Thread Cert.QuRefIdeal.nD Cert.QuRefIdeal.τ).loc Cert.QuRefIdeal.main_arg0)
      ∧ r.2.mem ((c.tc : Thread Cert.QuRefIdeal.nD Cert.QuRefIdeal.τ).loc Cert.QuRefIdeal.main_arg1) = m ((c.tc : Thread Cert.QuRefIdeal.nD Cert.QuRefIdeal.τ).loc Cert.QuRefIdeal.main_arg1)
      ∧ r.2.mem ((c.tc : Thread Cert.QuRefIdeal.nD Cert.QuRefIdeal.τ).loc Cert.QuRefIdeal.main_arg2) = m ((c.tc : Thread Cert.QuRefIdeal.nD Cert.QuRefIdeal.τ).loc Cert.QuRefIdeal.main_arg2)
      ∧ r.2.mem ((c.tc : Thread Cert.QuRefIdeal.nD Cert.QuRefIdeal.τ).loc Cert.QuRefIdeal.main_arg3) = m ((c.tc : Thread Cert.QuRefIdeal.nD Cert.QuRefIdeal.τ).loc Cert.QuRefIdeal.main_arg3)
      ∧ r.2.mem ((c.tc : Thread Cert.QuRefIdeal.nD Cert.QuRefIdeal.τ).loc Cert.QuRefIdeal.main_arg4) = m ((c.tc : Thread Cert.QuRefIdeal.nD Cert.QuRefIdeal.τ).loc Cert.QuRefIdeal.main_arg4)
      ∧ r.2.mem ((c.tc : Thread Cert.QuRefIdeal.nD Cert.QuRefIdeal.τ).loc Cert.QuRefIdeal.main_arg5) = m ((c.tc : Thread Cert.QuRefIdeal.nD Cert.QuRefIdeal.τ).loc Cert.QuRefIdeal.main_arg5)
      ∧ r.2.mem ((c.tc : Thread Cert.QuRefIdeal.nD Cert.QuRefIdeal.τ).loc Cert.QuRefIdeal.main_arg6) = m ((c.tc : Thread Cert.QuRefIdeal.nD Cert.QuRefIdeal.τ).loc Cert.QuRefIdeal.main_arg6))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6))
      ∧ r.2.sem = fun _ => 0)

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)
      ∧ m' ((c.tc : Thread Cert.DwRefIdeal.nD Cert.DwRefIdeal.τ).loc Cert.DwRefIdeal.main_arg3) = m ((c.tc : Thread Cert.DwIdeal.nD Cert.DwIdeal.τ).loc Cert.DwIdeal.main_arg3)) →
    ∃ (v0 : (c : Dev Cert.DwIdeal.nD) → Buf (Elt Ideal) ((c.tc : Thread Cert.DwIdeal.nD Cert.DwIdeal.τ).loc Cert.DwIdeal.main_v2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v2) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v2) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2)
          ∧ r.2.mem ((c.tc : Thread Cert.DwRefIdeal.nD Cert.DwRefIdeal.τ).loc Cert.DwRefIdeal.main_arg3) = m' ((c.tc : Thread Cert.DwRefIdeal.nD Cert.DwRefIdeal.τ).loc Cert.DwRefIdeal.main_arg3))

def preserves_Qu_QuIdeal : Prop :=
  True

def algebraic_QuIdeal_QuRefIdeal [hQuIdeal : Cert.QuIdeal.Facts] [hQuRefIdeal : Cert.QuRefIdeal.Facts] : Prop :=
  ∀ (m : (ℓ : Loc Cert.QuIdeal.nD Cert.QuIdeal.τ Cert.QuIdeal.sig) → Buf (Elt Ideal) ℓ) (g : Dev Cert.QuIdeal.nD → PrngReg)
    (m' : (ℓ : Loc Cert.QuRefIdeal.nD Cert.QuRefIdeal.τ Cert.QuRefIdeal.sig) → Buf (Elt Ideal) ℓ) (g' : Dev Cert.QuRefIdeal.nD → PrngReg), Pre_QuIdeal m →
    (∀ c : Dev Cert.QuIdeal.nD,
      m' ((c.tc : Thread Cert.QuRefIdeal.nD Cert.QuRefIdeal.τ).loc Cert.QuRefIdeal.main_arg0) = m ((c.tc : Thread Cert.QuIdeal.nD Cert.QuIdeal.τ).loc Cert.QuIdeal.main_arg0)
      ∧ m' ((c.tc : Thread Cert.QuRefIdeal.nD Cert.QuRefIdeal.τ).loc Cert.QuRefIdeal.main_arg1) = m ((c.tc : Thread Cert.QuIdeal.nD Cert.QuIdeal.τ).loc Cert.QuIdeal.main_arg1)
      ∧ m' ((c.tc : Thread Cert.QuRefIdeal.nD Cert.QuRefIdeal.τ).loc Cert.QuRefIdeal.main_arg2) = m ((c.tc : Thread Cert.QuIdeal.nD Cert.QuIdeal.τ).loc Cert.QuIdeal.main_arg2)
      ∧ m' ((c.tc : Thread Cert.QuRefIdeal.nD Cert.QuRefIdeal.τ).loc Cert.QuRefIdeal.main_arg3) = m ((c.tc : Thread Cert.QuIdeal.nD Cert.QuIdeal.τ).loc Cert.QuIdeal.main_arg3)
      ∧ m' ((c.tc : Thread Cert.QuRefIdeal.nD Cert.QuRefIdeal.τ).loc Cert.QuRefIdeal.main_arg4) = m ((c.tc : Thread Cert.QuIdeal.nD Cert.QuIdeal.τ).loc Cert.QuIdeal.main_arg4)
      ∧ m' ((c.tc : Thread Cert.QuRefIdeal.nD Cert.QuRefIdeal.τ).loc Cert.QuRefIdeal.main_arg5) = m ((c.tc : Thread Cert.QuIdeal.nD Cert.QuIdeal.τ).loc Cert.QuIdeal.main_arg5)
      ∧ m' ((c.tc : Thread Cert.QuRefIdeal.nD Cert.QuRefIdeal.τ).loc Cert.QuRefIdeal.main_arg6) = m ((c.tc : Thread Cert.QuIdeal.nD Cert.QuIdeal.τ).loc Cert.QuIdeal.main_arg6)) →
    ∃ (v0 : (c : Dev Cert.QuIdeal.nD) → Buf (Elt Ideal) ((c.tc : Thread Cert.QuIdeal.nD Cert.QuIdeal.τ).loc Cert.QuIdeal.main_v7_0)) (v1 : (c : Dev Cert.QuIdeal.nD) → Buf (Elt Ideal) ((c.tc : Thread Cert.QuIdeal.nD Cert.QuIdeal.τ).loc Cert.QuIdeal.main_v7_1)) (v2 : (c : Dev Cert.QuIdeal.nD) → Buf (Elt Ideal) ((c.tc : Thread Cert.QuIdeal.nD Cert.QuIdeal.τ).loc Cert.QuIdeal.main_v7_2)),
      θ_run (Cert.QuIdeal.defs (F := Ideal)) (onTc (τ := Cert.QuIdeal.τ) (Cert.QuIdeal.main (F := Ideal))) ⟨m, fun _ => 0, g⟩ (fun r => ∀ c : Dev Cert.QuIdeal.nD,
          r.2.mem ((c.tc : Thread Cert.QuIdeal.nD Cert.QuIdeal.τ).loc Cert.QuIdeal.main_v7_0) = v0 c
          ∧ r.2.mem ((c.tc : Thread Cert.QuIdeal.nD Cert.QuIdeal.τ).loc Cert.QuIdeal.main_v7_1) = v1 c
          ∧ r.2.mem ((c.tc : Thread Cert.QuIdeal.nD Cert.QuIdeal.τ).loc Cert.QuIdeal.main_v7_2) = v2 c
          ∧ r.2.mem ((c.tc : Thread Cert.QuIdeal.nD Cert.QuIdeal.τ).loc Cert.QuIdeal.main_arg0) = m ((c.tc : Thread Cert.QuIdeal.nD Cert.QuIdeal.τ).loc Cert.QuIdeal.main_arg0)
          ∧ r.2.mem ((c.tc : Thread Cert.QuIdeal.nD Cert.QuIdeal.τ).loc Cert.QuIdeal.main_arg1) = m ((c.tc : Thread Cert.QuIdeal.nD Cert.QuIdeal.τ).loc Cert.QuIdeal.main_arg1)
          ∧ r.2.mem ((c.tc : Thread Cert.QuIdeal.nD Cert.QuIdeal.τ).loc Cert.QuIdeal.main_arg2) = m ((c.tc : Thread Cert.QuIdeal.nD Cert.QuIdeal.τ).loc Cert.QuIdeal.main_arg2)
          ∧ r.2.mem ((c.tc : Thread Cert.QuIdeal.nD Cert.QuIdeal.τ).loc Cert.QuIdeal.main_arg3) = m ((c.tc : Thread Cert.QuIdeal.nD Cert.QuIdeal.τ).loc Cert.QuIdeal.main_arg3)
          ∧ r.2.mem ((c.tc : Thread Cert.QuIdeal.nD Cert.QuIdeal.τ).loc Cert.QuIdeal.main_arg4) = m ((c.tc : Thread Cert.QuIdeal.nD Cert.QuIdeal.τ).loc Cert.QuIdeal.main_arg4)
          ∧ r.2.mem ((c.tc : Thread Cert.QuIdeal.nD Cert.QuIdeal.τ).loc Cert.QuIdeal.main_arg5) = m ((c.tc : Thread Cert.QuIdeal.nD Cert.QuIdeal.τ).loc Cert.QuIdeal.main_arg5)
          ∧ r.2.mem ((c.tc : Thread Cert.QuIdeal.nD Cert.QuIdeal.τ).loc Cert.QuIdeal.main_arg6) = m ((c.tc : Thread Cert.QuIdeal.nD Cert.QuIdeal.τ).loc Cert.QuIdeal.main_arg6))
      ∧ θ_run (Cert.QuRefIdeal.defs (F := Ideal)) (onTc (τ := Cert.QuRefIdeal.τ) (Cert.QuRefIdeal.main (F := Ideal))) ⟨m', fun _ => 0, g'⟩ (fun r => ∀ c : Dev Cert.QuRefIdeal.nD,
          r.2.mem ((c.tc : Thread Cert.QuRefIdeal.nD Cert.QuRefIdeal.τ).loc Cert.QuRefIdeal.main_v7_0) = v0 c
          ∧ r.2.mem ((c.tc : Thread Cert.QuRefIdeal.nD Cert.QuRefIdeal.τ).loc Cert.QuRefIdeal.main_v7_1) = v1 c
          ∧ r.2.mem ((c.tc : Thread Cert.QuRefIdeal.nD Cert.QuRefIdeal.τ).loc Cert.QuRefIdeal.main_v7_2) = v2 c
          ∧ r.2.mem ((c.tc : Thread Cert.QuRefIdeal.nD Cert.QuRefIdeal.τ).loc Cert.QuRefIdeal.main_arg0) = m' ((c.tc : Thread Cert.QuRefIdeal.nD Cert.QuRefIdeal.τ).loc Cert.QuRefIdeal.main_arg0)
          ∧ r.2.mem ((c.tc : Thread Cert.QuRefIdeal.nD Cert.QuRefIdeal.τ).loc Cert.QuRefIdeal.main_arg1) = m' ((c.tc : Thread Cert.QuRefIdeal.nD Cert.QuRefIdeal.τ).loc Cert.QuRefIdeal.main_arg1)
          ∧ r.2.mem ((c.tc : Thread Cert.QuRefIdeal.nD Cert.QuRefIdeal.τ).loc Cert.QuRefIdeal.main_arg2) = m' ((c.tc : Thread Cert.QuRefIdeal.nD Cert.QuRefIdeal.τ).loc Cert.QuRefIdeal.main_arg2)
          ∧ r.2.mem ((c.tc : Thread Cert.QuRefIdeal.nD Cert.QuRefIdeal.τ).loc Cert.QuRefIdeal.main_arg3) = m' ((c.tc : Thread Cert.QuRefIdeal.nD Cert.QuRefIdeal.τ).loc Cert.QuRefIdeal.main_arg3)
          ∧ r.2.mem ((c.tc : Thread Cert.QuRefIdeal.nD Cert.QuRefIdeal.τ).loc Cert.QuRefIdeal.main_arg4) = m' ((c.tc : Thread Cert.QuRefIdeal.nD Cert.QuRefIdeal.τ).loc Cert.QuRefIdeal.main_arg4)
          ∧ r.2.mem ((c.tc : Thread Cert.QuRefIdeal.nD Cert.QuRefIdeal.τ).loc Cert.QuRefIdeal.main_arg5) = m' ((c.tc : Thread Cert.QuRefIdeal.nD Cert.QuRefIdeal.τ).loc Cert.QuRefIdeal.main_arg5)
          ∧ r.2.mem ((c.tc : Thread Cert.QuRefIdeal.nD Cert.QuRefIdeal.τ).loc Cert.QuRefIdeal.main_arg6) = m' ((c.tc : Thread Cert.QuRefIdeal.nD Cert.QuRefIdeal.τ).loc Cert.QuRefIdeal.main_arg6))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)) →
    ∃ (v0 : (c : Dev Cert.DxIdeal.nD) → Buf (Elt Ideal) ((c.tc : Thread Cert.DxIdeal.nD Cert.DxIdeal.τ).loc Cert.DxIdeal.main_v6_0)) (v1 : (c : Dev Cert.DxIdeal.nD) → Buf (Elt Ideal) ((c.tc : Thread Cert.DxIdeal.nD Cert.DxIdeal.τ).loc Cert.DxIdeal.main_v6_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v6_0) = v0 c
          ∧ r.2.mem ((c.tc : Thread Cert.DxIdeal.nD Cert.DxIdeal.τ).loc Cert.DxIdeal.main_v6_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v29) = v0 c
          ∧ r.2.mem ((c.tc : Thread Cert.DxRefIdeal.nD Cert.DxRefIdeal.τ).loc Cert.DxRefIdeal.main_v30) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6))

def Claim : Prop :=
  ∃ (hDw : Cert.Dw.Facts) (hDwIdeal : Cert.DwIdeal.Facts) (hDwRefIdeal : Cert.DwRefIdeal.Facts) (hQu : Cert.Qu.Facts) (hQuIdeal : Cert.QuIdeal.Facts) (hQuRefIdeal : Cert.QuRefIdeal.Facts) (hDx : Cert.Dx.Facts) (hDxIdeal : Cert.DxIdeal.Facts) (hDxRefIdeal : Cert.DxRefIdeal.Facts),
    quiescent_Dw (hDw := hDw)
    ∧ quiescent_DwIdeal (hDwIdeal := hDwIdeal)
    ∧ quiescent_DwRefIdeal (hDwRefIdeal := hDwRefIdeal)
    ∧ quiescent_Qu (hQu := hQu)
    ∧ quiescent_QuIdeal (hQuIdeal := hQuIdeal)
    ∧ quiescent_QuRefIdeal (hQuRefIdeal := hQuRefIdeal)
    ∧ quiescent_Dx (hDx := hDx)
    ∧ quiescent_DxIdeal (hDxIdeal := hDxIdeal)
    ∧ quiescent_DxRefIdeal (hDxRefIdeal := hDxRefIdeal)
    ∧ preserves_Dw_DwIdeal
    ∧ algebraic_DwIdeal_DwRefIdeal (hDwIdeal := hDwIdeal) (hDwRefIdeal := hDwRefIdeal)
    ∧ preserves_Qu_QuIdeal
    ∧ algebraic_QuIdeal_QuRefIdeal (hQuIdeal := hQuIdeal) (hQuRefIdeal := hQuRefIdeal)
    ∧ preserves_Dx_DxIdeal
    ∧ algebraic_DxIdeal_DxRefIdeal (hDxIdeal := hDxIdeal) (hDxRefIdeal := hDxRefIdeal)
-- ==== Dw.lean ====
abbrev S8192x12288 : Shape := ⟨2, ![8192, 12288]⟩
abbrev S12288x10240 : Shape := ⟨2, ![12288, 10240]⟩
abbrev S8192 : Shape := ⟨1, ![8192]⟩
abbrev S10240 : Shape := ⟨1, ![10240]⟩
abbrev S8192x1 : Shape := ⟨2, ![8192, 1]⟩
abbrev S1x10240 : Shape := ⟨2, ![1, 10240]⟩
abbrev S8192x10240 : Shape := ⟨2, ![8192, 10240]⟩
abbrev S1024x12288 : Shape := ⟨2, ![1024, 12288]⟩
abbrev S12288x512 : Shape := ⟨2, ![12288, 512]⟩
abbrev S1024x1 : Shape := ⟨2, ![1024, 1]⟩
abbrev S1x512 : Shape := ⟨2, ![1, 512]⟩
abbrev S1024x512 : Shape := ⟨2, ![1024, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x12288, .fp8e4m3⟩
  | .hbm, ⟨1, _⟩ => ⟨S12288x10240, .fp8e4m3⟩
  | .hbm, ⟨2, _⟩ => ⟨S8192, .f32⟩
  | .hbm, ⟨3, _⟩ => ⟨S10240, .f32⟩
  | .hbm, ⟨4, _⟩ => ⟨S8192x1, .f32⟩
  | .hbm, ⟨5, _⟩ => ⟨S1x10240, .f32⟩
  | .hbm, ⟨6, _⟩ => ⟨S8192x10240, .f32⟩
  | .local _ .vmem, ⟨0, _⟩ => ⟨S1024x12288, .fp8e4m3⟩
  | .local _ .vmem, ⟨1, _⟩ => ⟨S1024x12288, .fp8e4m3⟩
  | .local _ .vmem, ⟨2, _⟩ => ⟨S12288x512, .fp8e4m3⟩
  | .local _ .vmem, ⟨3, _⟩ => ⟨S12288x512, .fp8e4m3⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S8192x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x12288 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S12288x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DwRefIdeal.lean ====
abbrev S8192x12288 : Shape := ⟨2, ![8192, 12288]⟩
abbrev S12288x10240 : Shape := ⟨2, ![12288, 10240]⟩
abbrev S8192 : Shape := ⟨1, ![8192]⟩
abbrev S10240 : Shape := ⟨1, ![10240]⟩
abbrev S8192x1 : Shape := ⟨2, ![8192, 1]⟩
abbrev S1x10240 : Shape := ⟨2, ![1, 10240]⟩
abbrev S8192x10240 : Shape := ⟨2, ![8192, 10240]⟩

abbrev nBuf : Space → Nat
  | .hbm => 7
  | .vmem => 5
  | .smem => 0
  | _ => 0

abbrev bufTy : (tb : Table) → Fin (tcTables nBuf tb) → BufTy
  | .hbm, ⟨0, _⟩ => ⟨S8192x12288, .fp8e4m3⟩
  | .hbm, ⟨1, _⟩ => ⟨S12288x10240, .fp8e4m3⟩
  | .hbm, ⟨2, _⟩ => ⟨S8192, .f32⟩
  | .hbm, ⟨3, _⟩ => ⟨S10240, .f32⟩
  | .hbm, ⟨4, _⟩ => ⟨S8192x1, .f32⟩
  | .hbm, ⟨5, _⟩ => ⟨S1x10240, .f32⟩
  | .hbm, ⟨6, _⟩ => ⟨S8192x10240, .f32⟩
  | .local _ .vmem, ⟨0, _⟩ => ⟨S8192x12288, .fp8e4m3⟩
  | .local _ .vmem, ⟨1, _⟩ => ⟨S12288x10240, .fp8e4m3⟩
  | .local _ .vmem, ⟨2, _⟩ => ⟨S8192x1, .f32⟩
  | .local _ .vmem, ⟨3, _⟩ => ⟨S1x10240, .f32⟩
  | .local _ .vmem, ⟨4, _⟩ => ⟨S8192x10240, .f32⟩
  | _, _ => ⟨S8192x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8192x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x10240 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Qu.lean ====
abbrev S2x6144x8192 : Shape := ⟨3, ![2, 6144, 8192]⟩
abbrev S2x6144 : Shape := ⟨2, ![2, 6144]⟩
abbrev S8192 : Shape := ⟨1, ![8192]⟩
abbrev S2x6144x10240 : Shape := ⟨3, ![2, 6144, 10240]⟩
abbrev S10240 : Shape := ⟨1, ![10240]⟩
abbrev S12288x8192 : Shape := ⟨2, ![12288, 8192]⟩
abbrev S12288x10240 : Shape := ⟨2, ![12288, 10240]⟩
abbrev S12288x1 : Shape := ⟨2, ![12288, 1]⟩
abbrev S1x8192 : Shape := ⟨2, ![1, 8192]⟩
abbrev S1x10240 : Shape := ⟨2, ![1, 10240]⟩
abbrev S8192x12288 : Shape := ⟨2, ![8192, 12288]⟩
abbrev S128x8192 : Shape := ⟨2, ![128, 8192]⟩
abbrev S128x1 : Shape := ⟨2, ![128, 1]⟩
abbrev S128x10240 : Shape := ⟨2, ![128, 10240]⟩
abbrev S8192x128 : Shape := ⟨2, ![8192, 128]⟩

abbrev nBuf : Space → Nat
  | .hbm => 17
  | .vmem => 17
  | .smem => 0
  | _ => 0

abbrev bufTy : (tb : Table) → Fin (tcTables nBuf tb) → BufTy
  | .hbm, ⟨0, _⟩ => ⟨S2x6144x8192, .fp8e4m3⟩
  | .hbm, ⟨1, _⟩ => ⟨S2x6144, .f32⟩
  | .hbm, ⟨2, _⟩ => ⟨S2x6144, .f32⟩
  | .hbm, ⟨3, _⟩ => ⟨S8192, .f32⟩
  | .hbm, ⟨4, _⟩ => ⟨S8192, .f32⟩
  | .hbm, ⟨5, _⟩ => ⟨S2x6144x10240, .bf16⟩
  | .hbm, ⟨6, _⟩ => ⟨S10240, .f32⟩
  | .hbm, ⟨7, _⟩ => ⟨S12288x8192, .fp8e4m3⟩
  | .hbm, ⟨8, _⟩ => ⟨S12288x10240, .bf16⟩
  | .hbm, ⟨9, _⟩ => ⟨S12288x1, .f32⟩
  | .hbm, ⟨10, _⟩ => ⟨S12288x1, .f32⟩
  | .hbm, ⟨11, _⟩ => ⟨S1x8192, .f32⟩
  | .hbm, ⟨12, _⟩ => ⟨S1x8192, .f32⟩
  | .hbm, ⟨13, _⟩ => ⟨S1x10240, .f32⟩
  | .hbm, ⟨14, _⟩ => ⟨S12288x8192, .fp8e4m3⟩
  | .hbm, ⟨15, _⟩ => ⟨S8192x12288, .fp8e4m3⟩
  | .hbm, ⟨16, _⟩ => ⟨S12288x10240, .fp8e4m3⟩
  | .local _ .vmem, ⟨0, _⟩ => ⟨S128x8192, .fp8e4m3⟩
  | .local _ .vmem, ⟨1, _⟩ => ⟨S128x8192, .fp8e4m3⟩
  | .local _ .vmem, ⟨2, _⟩ => ⟨S128x1, .f32⟩
  | .local _ .vmem, ⟨3, _⟩ => ⟨S128x1, .f32⟩
  | .local _ .vmem, ⟨4, _⟩ => ⟨S128x1, .f32⟩
  | .local _ .vmem, ⟨5, _⟩ => ⟨S128x1, .f32⟩
  | .local _ .vmem, ⟨6, _⟩ => ⟨S1x8192, .f32⟩
  | .local _ .vmem, ⟨7, _⟩ => ⟨S1x8192, .f32⟩
  | .local _ .vmem, ⟨8, _⟩ => ⟨S128x10240, .bf16⟩
  | .local _ .vmem, ⟨9, _⟩ => ⟨S128x10240, .bf16⟩
  | .local _ .vmem, ⟨10, _⟩ => ⟨S1x10240, .f32⟩
  | .local _ .vmem, ⟨11, _⟩ => ⟨S128x8192, .fp8e4m3⟩
  | .local _ .vmem, ⟨12, _⟩ => ⟨S128x8192, .fp8e4m3⟩
  | .local _ .vmem, ⟨13, _⟩ => ⟨S8192x128, .fp8e4m3⟩
  | .local _ .vmem, ⟨14, _⟩ => ⟨S8192x128, .fp8e4m3⟩
  | .local _ .vmem, ⟨15, _⟩ => ⟨S128x10240, .fp8e4m3⟩
  | .local _ .vmem, ⟨16, _⟩ => ⟨S128x10240, .fp8e4m3⟩
  | _, _ => ⟨S2x6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x10240 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x10240 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x8192 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8192x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x10240 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QuRefIdeal.lean ====
abbrev S2x6144x8192 : Shape := ⟨3, ![2, 6144, 8192]⟩
abbrev S2x6144 : Shape := ⟨2, ![2, 6144]⟩
abbrev S8192 : Shape := ⟨1, ![8192]⟩
abbrev S2x6144x10240 : Shape := ⟨3, ![2, 6144, 10240]⟩
abbrev S10240 : Shape := ⟨1, ![10240]⟩
abbrev S12288x8192 : Shape := ⟨2, ![12288, 8192]⟩
abbrev S12288x1 : Shape := ⟨2, ![12288, 1]⟩
abbrev S1x8192 : Shape := ⟨2, ![1, 8192]⟩
abbrev S12288x10240 : Shape := ⟨2, ![12288, 10240]⟩
abbrev S1x10240 : Shape := ⟨2, ![1, 10240]⟩
abbrev S8192x12288 : Shape := ⟨2, ![8192, 12288]⟩

abbrev nBuf : Space → Nat
  | .hbm => 17
  | .vmem => 10
  | .smem => 0
  | _ => 0

abbrev bufTy : (tb : Table) → Fin (tcTables nBuf tb) → BufTy
  | .hbm, ⟨0, _⟩ => ⟨S2x6144x8192, .fp8e4m3⟩
  | .hbm, ⟨1, _⟩ => ⟨S2x6144, .f32⟩
  | .hbm, ⟨2, _⟩ => ⟨S2x6144, .f32⟩
  | .hbm, ⟨3, _⟩ => ⟨S8192, .f32⟩
  | .hbm, ⟨4, _⟩ => ⟨S8192, .f32⟩
  | .hbm, ⟨5, _⟩ => ⟨S2x6144x10240, .bf16⟩
  | .hbm, ⟨6, _⟩ => ⟨S10240, .f32⟩
  | .hbm, ⟨7, _⟩ => ⟨S12288x8192, .fp8e4m3⟩
  | .hbm, ⟨8, _⟩ => ⟨S12288x1, .f32⟩
  | .hbm, ⟨9, _⟩ => ⟨S12288x1, .f32⟩
  | .hbm, ⟨10, _⟩ => ⟨S1x8192, .f32⟩
  | .hbm, ⟨11, _⟩ => ⟨S1x8192, .f32⟩
  | .hbm, ⟨12, _⟩ => ⟨S12288x10240, .bf16⟩
  | .hbm, ⟨13, _⟩ => ⟨S1x10240, .f32⟩
  | .hbm, ⟨14, _⟩ => ⟨S12288x8192, .fp8e4m3⟩
  | .hbm, ⟨15, _⟩ => ⟨S8192x12288, .fp8e4m3⟩
  | .hbm, ⟨16, _⟩ => ⟨S12288x10240, .fp8e4m3⟩
  | .local _ .vmem, ⟨0, _⟩ => ⟨S12288x8192, .fp8e4m3⟩
  | .local _ .vmem, ⟨1, _⟩ => ⟨S12288x1, .f32⟩
  | .local _ .vmem, ⟨2, _⟩ => ⟨S12288x1, .f32⟩
  | .local _ .vmem, ⟨3, _⟩ => ⟨S1x8192, .f32⟩
  | .local _ .vmem, ⟨4, _⟩ => ⟨S1x8192, .f32⟩
  | .local _ .vmem, ⟨5, _⟩ => ⟨S12288x10240, .bf16⟩
  | .local _ .vmem, ⟨6, _⟩ => ⟨S1x10240, .f32⟩
  | .local _ .vmem, ⟨7, _⟩ => ⟨S12288x8192, .fp8e4m3⟩
  | .local _ .vmem, ⟨8, _⟩ => ⟨S8192x12288, .fp8e4m3⟩
  | .local _ .vmem, ⟨9, _⟩ => ⟨S12288x10240, .fp8e4m3⟩
  | _, _ => ⟨S2x6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S12288x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x10240 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x10240 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x8192 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x12288 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12288x10240 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Dx.lean ====
abbrev S2x6144x8192 : Shape := ⟨3, ![2, 6144, 8192]⟩
abbrev S2x6144 : Shape := ⟨2, ![2, 6144]⟩
abbrev S8192 : Shape := ⟨1, ![8192]⟩
abbrev S8192x10240 : Shape := ⟨2, ![8192, 10240]⟩
abbrev S10240 : Shape := ⟨1, ![10240]⟩
abbrev S2x6144x10240 : Shape := ⟨3, ![2, 6144, 10240]⟩
abbrev S12288x8192 : Shape := ⟨2, ![12288, 8192]⟩
abbrev S12288x10240 : Shape := ⟨2, ![12288, 10240]⟩
abbrev S12288x1 : Shape := ⟨2, ![12288, 1]⟩
abbrev S1x8192 : Shape := ⟨2, ![1, 8192]⟩
abbrev S1x10240 : Shape := ⟨2, ![1, 10240]⟩
abbrev S16x1x512 : Shape := ⟨3, ![16, 1, 512]⟩
abbrev S512x10240 : Shape := ⟨2, ![512, 10240]⟩
abbrev S512x512 : Shape := ⟨2, ![512, 512]⟩
abbrev S512x1 : Shape := ⟨2, ![512, 1]⟩
abbrev S1x512 : Shape := ⟨2, ![1, 512]⟩
abbrev S16x512x512 : Shape := ⟨3, ![16, 512, 512]⟩
abbrev S512x128 : Shape := ⟨2, ![512, 128]⟩
abbrev S16x8x512 : Shape := ⟨3, ![16, 8, 512]⟩
abbrev S1x512x512 : Shape := ⟨3, ![1, 512, 512]⟩
abbrev S1x8x512 : Shape := ⟨3, ![1, 8, 512]⟩
abbrev S8x512 : Shape := ⟨2, ![8, 512]⟩
abbrev S64x8x512 : Shape := ⟨3, ![64, 8, 512]⟩
abbrev S512 : Shape := ⟨1, ![512]⟩
abbrev S16x512 : Shape := ⟨2, ![16, 512]⟩

abbrev nBuf : Space → Nat
  | .hbm => 15
  | .vmem => 28
  | .smem => 0
  | _ => 0

abbrev bufTy : (tb : Table) → Fin (tcTables nBuf tb) → BufTy
  | .hbm, ⟨0, _⟩ => ⟨S2x6144x8192, .fp8e4m3⟩
  | .hbm, ⟨1, _⟩ => ⟨S2x6144, .f32⟩
  | .hbm, ⟨2, _⟩ => ⟨S2x6144, .f32⟩
  | .hbm, ⟨3, _⟩ => ⟨S8192, .f32⟩
  | .hbm, ⟨4, _⟩ => ⟨S8192x10240, .fp8e4m3⟩
  | .hbm, ⟨5, _⟩ => ⟨S10240, .f32⟩
  | .hbm, ⟨6, _⟩ => ⟨S2x6144x10240, .bf16⟩
  | .hbm, ⟨7, _⟩ => ⟨S12288x8192, .fp8e4m3⟩
  | .hbm, ⟨8, _⟩ => ⟨S12288x10240, .bf16⟩
  | .hbm, ⟨9, _⟩ => ⟨S12288x1, .f32⟩
  | .hbm, ⟨10, _⟩ => ⟨S12288x1, .f32⟩
  | .hbm, ⟨11, _⟩ => ⟨S1x8192, .f32⟩
  | .hbm, ⟨12, _⟩ => ⟨S1x10240, .f32⟩
  | .hbm, ⟨13, _⟩ => ⟨S12288x8192, .bf16⟩
  | .hbm, ⟨14, _⟩ => ⟨S16x1x512, .f32⟩
  | .local _ .vmem, ⟨0, _⟩ => ⟨S512x10240, .bf16⟩
  | .local _ .vmem, ⟨1, _⟩ => ⟨S512x10240, .bf16⟩
  | .local _ .vmem, ⟨2, _⟩ => ⟨S512x10240, .fp8e4m3⟩
  | .local _ .vmem, ⟨3, _⟩ => ⟨S512x10240, .fp8e4m3⟩
  | .local _ .vmem, ⟨4, _⟩ => ⟨S1x10240, .f32⟩
  | .local _ .vmem, ⟨5, _⟩ => ⟨S512x512, .fp8e4m3⟩
  | .local _ .vmem, ⟨6, _⟩ => ⟨S512x512, .fp8e4m3⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S1x512, .f32⟩
  | .local _ .vmem, ⟨12, _⟩ => ⟨S1x512, .f32⟩
  | .local _ .vmem, ⟨13, _⟩ => ⟨S512x512, .fp8e4m3⟩
  | .local _ .vmem, ⟨14, _⟩ => ⟨S512x512, .fp8e4m3⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S1x512, .f32⟩
  | .local _ .vmem, ⟨20, _⟩ => ⟨S1x512, .f32⟩
  | .local _ .vmem, ⟨21, _⟩ => ⟨S512x512, .bf16⟩
  | .local _ .vmem, ⟨22, _⟩ => ⟨S512x512, .bf16⟩
  | .local _ .vmem, ⟨23, _⟩ => ⟨S16x1x512, .f32⟩
  | .local _ .vmem, ⟨24, _⟩ => ⟨S16x512x512, .f32⟩
  | .local _ .vmem, ⟨25, _⟩ => ⟨S512x128, .f32⟩
  | .local _ .vmem, ⟨26, _⟩ => ⟨S512x1, .f32⟩
  | .local _ .vmem, ⟨27, _⟩ => ⟨S16x8x512, .f32⟩
  | _, _ => ⟨S2x6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![25, 16], ![false, false]⟩

def k0_cond2 (i : grid0.Coords) : BitVec 1 :=
  let arg0 : BitVec 32 := BitVec.ofNat 32 (i 0).val
  let c24_i32 : BitVec 32 := 24#32
  let v8 : BitVec 1 := Scalar.cmpi .slt arg0 c24_i32
  let v9 : BitVec 32 := Scalar.extui v8
  let c0_i32_3 : BitVec 32 := 0#32
  let v10 : BitVec 1 := Scalar.cmpi .ne v9 c0_i32_3
  v10

def k0_off1 (i : grid0.Coords) : Fin 3 → Nat :=
  let arg1 : BitVec 32 := BitVec.ofNat 32 (i 1).val
  let c0_i32_1 : BitVec 32 := 0#32
  let v3 : BitVec 1 := Scalar.cmpi .eq arg1 c0_i32_1
  let c15_i32 : BitVec 32 := 15#32
  let c1_i32 : BitVec 32 := 1#32
  let v4 : BitVec 32 := Scalar.subi arg1 c1_i32
  let v5 : BitVec 32 := Scalar.select v3 c15_i32 v4
  let v14 : Index := Scalar.indexCast v5
  let c0 : Index := 0#32
  let c0_6 : Index := 0#32
  ![v14.toNat, 0, 0]
def k0_off2 (i : grid0.Coords) : Fin 3 → Nat :=
  let arg1 : BitVec 32 := BitVec.ofNat 32 (i 1).val
  let c0_i32_1 : BitVec 32 := 0#32
  let v3 : BitVec 1 := Scalar.cmpi .eq arg1 c0_i32_1
  let c15_i32 : BitVec 32 := 15#32
  let c1_i32 : BitVec 32 := 1#32
  let v4 : BitVec 32 := Scalar.subi arg1 c1_i32
  let v5 : BitVec 32 := Scalar.select v3 c15_i32 v4
  let v29 : Index := Scalar.indexCast v5
  let c0_13 : Index := 0#32
  let c0_14 : Index := 0#32
  ![v29.toNat, 0, 0]
def k0_off3 (i : grid0.Coords) : Fin 3 → Nat :=
  let arg1 : BitVec 32 := BitVec.ofNat 32 (i 1).val
  let v79 : Index := Scalar.indexCast arg1
  let c0_38 : Index := 0#32
  let c0_39 : Index := 0#32
  ![v79.toNat, 0, 0]
def k0_cond3 (i : grid0.Coords) : BitVec 1 :=
  let arg0 : BitVec 32 := BitVec.ofNat 32 (i 0).val
  let c24_i32_4 : BitVec 32 := 24#32
  let v11 : BitVec 1 := Scalar.cmpi .eq arg0 c24_i32_4
  let v12 : BitVec 32 := Scalar.extui v11
  let c0_i32_5 : BitVec 32 := 0#32
  let v13 : BitVec 1 := Scalar.cmpi .ne v12 c0_i32_5
  v13

def k0_cond4 (i : grid0.Coords) : BitVec 1 :=
  let arg1 : BitVec 32 := BitVec.ofNat 32 (i 1).val
  let c0_i32_6 : BitVec 32 := 0#32
  let v14 : BitVec 1 := Scalar.cmpi .eq arg1 c0_i32_6
  let v15 : BitVec 32 := Scalar.extui v14
  let c0_i32_7 : BitVec 32 := 0#32
  let v16 : BitVec 1 := Scalar.cmpi .ne v15 c0_i32_7
  v16

def k0_off4 (i : grid0.Coords) : Fin 3 → Nat :=
  let arg1 : BitVec 32 := BitVec.ofNat 32 (i 1).val
  let c0_i32_1 : BitVec 32 := 0#32
  let v3 : BitVec 1 := Scalar.cmpi .eq arg1 c0_i32_1
  let c15_i32 : BitVec 32 := 15#32
  let c1_i32 : BitVec 32 := 1#32
  let v4 : BitVec 32 := Scalar.subi arg1 c1_i32
  let v5 : BitVec 32 := Scalar.select v3 c15_i32 v4
  let v45 : Index := Scalar.indexCast v5
  let c0_23 : Index := 0#32
  let c0_24 : Index := 0#32
  ![v45.toNat, 0, 0]
def k0_off5 (i : grid0.Coords) : Fin 3 → Nat :=
  let arg1 : BitVec 32 := BitVec.ofNat 32 (i 1).val
  let c0_i32_1 : BitVec 32 := 0#32
  let v3 : BitVec 1 := Scalar.cmpi .eq arg1 c0_i32_1
  let c15_i32 : BitVec 32 := 15#32
  let c1_i32 : BitVec 32 := 1#32
  let v4 : BitVec 32 := Scalar.subi arg1 c1_i32
  let v5 : BitVec 32 := Scalar.select v3 c15_i32 v4
  let v60 : Index := Scalar.indexCast v5
  let c0_31 : Index := 0#32
  let c0_32 : Index := 0#32
  ![v60.toNat, 0, 0]
def k0_off6 (i : grid0.Coords) : Fin 3 → Nat :=
  let arg1 : BitVec 32 := BitVec.ofNat 32 (i 1).val
  let v28 : Index := Scalar.indexCast arg1
  let c0_13 : Index := 0#32
  let c0_14 : Index := 0#32
  ![v28.toNat, 0, 0]
def cc0_transform_0 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 1 := Scalar.cmpi .eq arg0 c24_i32
  let c15_i32 : BitVec 32 := 15#32
  let v1 : BitVec 32 := Scalar.select v0 c15_i32 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 32 := Scalar.subi arg0 c1_i32
  let c23_i32 : BitVec 32 := 23#32
  let v2 : BitVec 32 := Scalar.minsi arg0 c23_i32
  let v3 : BitVec 32 := Scalar.select v0 v1 v2
  let c0_i32_0 : BitVec 32 := 0#32
  let v4 : BitVec 32 := Scalar.maxsi v3 c0_i32_0
  let c0_i32_1 : BitVec 32 := 0#32
  let v5 : BitVec 1 := Scalar.cmpi .eq arg1 c0_i32_1
  let c24_i32 : BitVec 32 := 24#32
  let v6 : BitVec 1 := Scalar.cmpi .eq arg0 c24_i32
  let c1_i32_2 : BitVec 32 := 1#32
  let v7 : BitVec 32 := Scalar.subi arg1 c1_i32_2
  let c15_i32 : BitVec 32 := 15#32
  let v8 : BitVec 32 := Scalar.select v6 c15_i32 v7
  let c15_i32_3 : BitVec 32 := 15#32
  let v9 : BitVec 32 := Scalar.select v5 c15_i32_3 v8
  let c0_i32_4 : BitVec 32 := 0#32
  ![v4.toNat, v9.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 32 := Scalar.subi arg0 c1_i32
  let c23_i32 : BitVec 32 := 23#32
  let v2 : BitVec 32 := Scalar.minsi arg0 c23_i32
  let v3 : BitVec 32 := Scalar.select v0 v1 v2
  let c0_i32_0 : BitVec 32 := 0#32
  let v4 : BitVec 32 := Scalar.maxsi v3 c0_i32_0
  let c0_i32_1 : BitVec 32 := 0#32
  let c0_i32_2 : BitVec 32 := 0#32
  ![v4.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 32 := Scalar.subi arg0 c1_i32
  let c23_i32 : BitVec 32 := 23#32
  let v2 : BitVec 32 := Scalar.minsi arg0 c23_i32
  let v3 : BitVec 32 := Scalar.select v0 v1 v2
  let c0_i32_0 : BitVec 32 := 0#32
  let v4 : BitVec 32 := Scalar.maxsi v3 c0_i32_0
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c24_i32 : BitVec 32 := 24#32
  let v1 : BitVec 1 := Scalar.cmpi .eq arg0 c24_i32
  let c1_i32 : BitVec 32 := 1#32
  let v2 : BitVec 32 := Scalar.subi arg1 c1_i32
  let c15_i32 : BitVec 32 := 15#32
  let v3 : BitVec 32 := Scalar.select v1 c15_i32 v2
  let c15_i32_0 : BitVec 32 := 15#32
  let v4 : BitVec 32 := Scalar.select v0 c15_i32_0 v3
  let c0_i32_1 : BitVec 32 := 0#32
  let c0_i32_2 : BitVec 32 := 0#32
  ![c0_i32_1.toNat, v4.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x10240 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x10240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S16x1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== DxRefIdeal.lean ====
abbrev S2x6144x8192 : Shape := ⟨3, ![2, 6144, 8192]⟩
abbrev S2x6144 : Shape := ⟨2, ![2, 6144]⟩
abbrev S8192 : Shape := ⟨1, ![8192]⟩
abbrev S8192x10240 : Shape := ⟨2, ![8192, 10240]⟩
abbrev S10240 : Shape := ⟨1, ![10240]⟩
abbrev S2x6144x10240 : Shape := ⟨3, ![2, 6144, 10240]⟩
abbrev S2x6144x1 : Shape := ⟨3, ![2, 6144, 1]⟩
abbrev S1x10240 : Shape := ⟨2, ![1, 10240]⟩
abbrev S_ : Shape := ⟨0, ![]⟩
abbrev S1x1x8192 : Shape := ⟨3, ![1, 1, 8192]⟩
abbrev S12288x8192 : Shape := ⟨2, ![12288, 8192]⟩
abbrev S16x1x512 : Shape := ⟨3, ![16, 1, 512]⟩

abbrev nBuf : Space → Nat
  | .hbm => 42
  | .vmem => 4
  | .smem => 0
  | _ => 0

abbrev bufTy : (tb : Table) → Fin (tcTables nBuf tb) → BufTy
  | .hbm, ⟨0, _⟩ => ⟨S2x6144x8192, .fp8e4m3⟩
  | .hbm, ⟨1, _⟩ => ⟨S2x6144, .f32⟩
  | .hbm, ⟨2, _⟩ => ⟨S2x6144, .f32⟩
  | .hbm, ⟨3, _⟩ => ⟨S8192, .f32⟩
  | .hbm, ⟨4, _⟩ => ⟨S8192x10240, .fp8e4m3⟩
  | .hbm, ⟨5, _⟩ => ⟨S10240, .f32⟩
  | .hbm, ⟨6, _⟩ => ⟨S2x6144x10240, .bf16⟩
  | .hbm, ⟨7, _⟩ => ⟨S2x6144x8192, .f32⟩
  | .hbm, ⟨8, _⟩ => ⟨S8192x10240, .bf16⟩
  | .hbm, ⟨9, _⟩ => ⟨S2x6144x1, .f32⟩
  | .hbm, ⟨10, _⟩ => ⟨S2x6144x8192, .f32⟩
  | .hbm, ⟨11, _⟩ => ⟨S2x6144x8192, .f32⟩
  | .hbm, ⟨12, _⟩ => ⟨S2x6144x1, .f32⟩
  | .hbm, ⟨13, _⟩ => ⟨S2x6144x8192, .f32⟩
  | .hbm, ⟨14, _⟩ => ⟨S2x6144x8192, .f32⟩
  | .hbm, ⟨15, _⟩ => ⟨S10240, .bf16⟩
  | .hbm, ⟨16, _⟩ => ⟨S1x10240, .bf16⟩
  | .hbm, ⟨17, _⟩ => ⟨S8192x10240, .bf16⟩
  | .hbm, ⟨18, _⟩ => ⟨S8192x10240, .bf16⟩
  | .hbm, ⟨19, _⟩ => ⟨S2x6144x8192, .f32⟩
  | .hbm, ⟨20, _⟩ => ⟨S2x6144x8192, .f32⟩
  | .hbm, ⟨21, _⟩ => ⟨S_, .f32⟩
  | .hbm, ⟨22, _⟩ => ⟨S8192, .f32⟩
  | .hbm, ⟨23, _⟩ => ⟨S1x1x8192, .f32⟩
  | .hbm, ⟨24, _⟩ => ⟨S2x6144x8192, .f32⟩
  | .hbm, ⟨25, _⟩ => ⟨S2x6144x8192, .f32⟩
  | .hbm, ⟨26, _⟩ => ⟨S2x6144x1, .f32⟩
  | .hbm, ⟨27, _⟩ => ⟨S2x6144x8192, .f32⟩
  | .hbm, ⟨28, _⟩ => ⟨S_, .f32⟩
  | .hbm, ⟨29, _⟩ => ⟨S2x6144, .f32⟩
  | .hbm, ⟨30, _⟩ => ⟨S2x6144x1, .f32⟩
  | .hbm, ⟨31, _⟩ => ⟨S_, .f32⟩
  | .hbm, ⟨32, _⟩ => ⟨S2x6144x1, .f32⟩
  | .hbm, ⟨33, _⟩ => ⟨S2x6144x1, .f32⟩
  | .hbm, ⟨34, _⟩ => ⟨S2x6144x8192, .f32⟩
  | .hbm, ⟨35, _⟩ => ⟨S2x6144x8192, .f32⟩
  | .hbm, ⟨36, _⟩ => ⟨S2x6144x8192, .f32⟩
  | .hbm, ⟨37, _⟩ => ⟨S2x6144x8192, .f32⟩
  | .hbm, ⟨38, _⟩ => ⟨S2x6144x8192, .f32⟩
  | .hbm, ⟨39, _⟩ => ⟨S2x6144x8192, .bf16⟩
  | .hbm, ⟨40, _⟩ => ⟨S12288x8192, .bf16⟩
  | .hbm, ⟨41, _⟩ => ⟨S16x1x512, .f32⟩
  | .local _ .vmem, ⟨0, _⟩ => ⟨S2x6144x8192, .fp8e4m3⟩
  | .local _ .vmem, ⟨1, _⟩ => ⟨S8192x10240, .fp8e4m3⟩
  | .local _ .vmem, ⟨2, _⟩ => ⟨S2x6144x8192, .f32⟩
  | .local _ .vmem, ⟨3, _⟩ => ⟨S8192x10240, .bf16⟩
  | _, _ => ⟨S2x6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x6144x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x10240 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x6144x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x10240 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.DwRef.lean ====
module

public import proofs.«01_k».proof.Proof.Gen.DwRefIdeal.Frame
public import Idealize.ShloMosaic.Lib.Pipeline.ValueKit
public import Idealize.ShloMosaic.Lib.Pointwise
public import Idealize.ShloMosaic.Lib.Claim

/-! # What the weight gradient's reference computes

The reference of `_dw` is one region without a grid: its single point reads the four operands whole, multiplies the
codes' matrices and scales the product. Its result is that one payload of the operands. -/

set_option maxRecDepth 16384

noncomputable section

@[expose] public section

namespace Cert.DwRefIdeal.Val

open Idealize.ShloMosaic Idealize.ShloMosaic.TcCoe Idealize.ShloMosaic.Tactic
open Cert.DwRefIdeal Cert.DwRefIdeal.Gen
open Idealize.ShloMosaic.Pipeline (Dat)

variable (m : (ℓ : Loc nD τ sig) → Buf (Elt Ideal) ℓ)

/-- Every window of the one grid point starts at the origin. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The weight gradient of whole operands: the product of the codes, scaled by the product of the two scales. -/
def DW (a : FVec Ideal S8192x12288 .fp8e4m3) (b : FVec Ideal S12288x10240 .fp8e4m3) (sa : FVec Ideal S8192 .f32)
    (sb : FVec Ideal S10240 .f32) : FVec Ideal S8192x10240 .f32 :=
  k0_pay1 a b (broadcastInDim S8192x1 ![0] bcast_S8192_S8192x1_0 sa) (broadcastInDim S1x10240 ![1] bcast_S10240_S1x10240_1 sb)

/-- What the reference leaves in its result. -/
theorem final (c : Dev nD) : (dats m 0 c).arrAt 4 cfg0.N
    = DW (m ((c : Thread nD τ).loc main_arg0)) (m ((c : Thread nD τ).loc main_arg1)) (m ((c : Thread nD τ).loc main_arg2))
        (m ((c : Thread nD τ).loc main_arg3)) := by
  refine (dats m 0 c).arrAt_eq_of_after_last 4 t0_0 (by decide +kernel) _ fun j => ?_
  blk_simp
  rw [after0_4]
  frame_out
  pointwise [k0_pay1, DW]
  blk_point [iblk, V, idx t0_0]

end Cert.DwRefIdeal.Val

end
-- ==== Proof.DwValue.lean ====
module

public import proofs.«01_k».proof.Proof.Gen.DwIdeal.Frame
public import proofs.«01_k».proof.Proof.DwRef
public import Idealize.ShloMosaic.Lib.Pipeline.ValueKit
public import Idealize.ShloMosaic.Lib.Pointwise
public import Idealize.ShloMosaic.Lib.Claim

/-! # The weight gradient's kernel computes the reference's product

At grid point `(i, j)` the kernel multiplies row block `i` of the transposed codes by column block `j` of the
incoming gradient's codes over the whole contraction, and scales the product. So every block it writes is the
block of the reference's result at its place, and the blocks cover the result. -/

set_option maxRecDepth 16384

noncomputable section

@[expose] public section

namespace Cert.DwIdeal.Val

open Idealize.ShloMosaic Idealize.ShloMosaic.TcCoe Idealize.ShloMosaic.Tactic
open Cert.DwIdeal Cert.DwIdeal.Gen
open Idealize.ShloMosaic.Pipeline (Dat)

variable (m : (ℓ : Loc nD τ sig) → Buf (Elt Ideal) ℓ)

/-- Point `t` is row block `t / 20` and column block `t % 20`. -/
theorem idx : ∀ t : Fin cfg0.N, win0_0.index t = ![t.1 / 20, 0] ∧ win0_1.index t = ![0, t.1 % 20]
    ∧ win0_2.index t = ![t.1 / 20, 0] ∧ win0_3.index t = ![0, t.1 % 20] ∧ win0_4.index t = ![t.1 / 20, t.1 % 20] :=
  (by decide +kernel : ∀ t : Fin grid0.N, _)

/-- One block: the kernel's payload at a point is the reference's result under the block. -/
theorem point (c : Dev nD) (t : Fin cfg0.N) (y) :
    k0_pay1 (iblk m c 0 t) (iblk m c 1 t) (iblk m c 2 t) (iblk m c 3 t) y
      = Cert.DwRefIdeal.Val.DW (m ((c : Thread nD τ).loc main_arg0)) (m ((c : Thread nD τ).loc main_arg1))
          (m ((c : Thread nD τ).loc main_arg2)) (m ((c : Thread nD τ).loc main_arg3))
          (((cfg0.win 4).blk t).view.emb y) := by
  pointwise [k0_pay1, Cert.DwRefIdeal.Gen.k0_pay1, Cert.DwRefIdeal.Val.DW]
  blk_point [iblk, V, idx t]

/-- What the kernel leaves in its result. -/
theorem final (c : Dev nD) : (dats m 0 c).arrAt 4 cfg0.N
    = Cert.DwRefIdeal.Val.DW (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.DwIdeal.Val

end
-- ==== Proof.DwClaim.lean ====
module

public import proofs.«01_k».proof.Defs
public import proofs.«01_k».proof.Proof.DwValue
public import Idealize.ShloMosaic.Lib.Claim

/-! # The kernel and the reference agree over the reals -/

set_option maxRecDepth 16384

open Idealize.ShloMosaic Idealize.ShloMosaic.TcCoe Idealize.ShloMosaic.Tactic Idealize.SL.Sem

noncomputable section

@[expose] public section

/-- The two programs leave equal results when they start from equal arguments. -/
theorem Cert.DwIdeal.Val.algebraic : Cert.algebraic_DwIdeal_DwRefIdeal := by
  pair_intro
  · run_from Cert.DwIdeal.Gen.run_main m g
  · run_from Cert.DwRefIdeal.Gen.run_main m' g'
    rw [Cert.DwRefIdeal.Val.final, Cert.DwIdeal.Val.final, (hagree _).1, (hagree _).2.1, (hagree _).2.2.1, (hagree _).2.2.2]

end
-- ==== Proof.QuRef.lean ====
module

public import proofs.«01_k».proof.Proof.Gen.QuRefIdeal.Frame
public import Idealize.ShloMosaic.Lib.Pipeline.ValueKit
public import Idealize.ShloMosaic.Lib.Pointwise
public import Idealize.ShloMosaic.Lib.Claim

/-! # What the quantiser's reference computes

The reference of `_quant` is one region without a grid: its single point reads the seven operands whole, normalises
the activations, scales and clips them, and writes the codes, their transpose and the gradient's codes. -/

set_option maxRecDepth 16384

noncomputable section

@[expose] public section

namespace Cert.QuRefIdeal.Val

open Idealize.ShloMosaic Idealize.ShloMosaic.TcCoe Idealize.ShloMosaic.Tactic
open Cert.QuRefIdeal Cert.QuRefIdeal.Gen
open Idealize.ShloMosaic.Pipeline (Dat)

variable (m : (ℓ : Loc nD τ sig) → Buf (Elt Ideal) ℓ)

/-- Every window of the one grid point starts at the origin. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

/-- The activations' codes of whole operands (codes, scale, reciprocal deviation, weight, inverse scale). -/
def XC (x : FVec Ideal S2x6144x8192 .fp8e4m3) (s r : FVec Ideal S2x6144 .f32) (g v : FVec Ideal S8192 .f32) :
    FVec Ideal S12288x8192 .fp8e4m3 :=
  k0_pay3 (shapeCast S12288x8192 x shapeCasts_S2x6144x8192_S12288x8192) (shapeCast S12288x1 s shapeCasts_S2x6144_S12288x1)
    (shapeCast S12288x1 r shapeCasts_S2x6144_S12288x1) (broadcastInDim S1x8192 ![1] bcast_S8192_S1x8192_1 g)
    (broadcastInDim S1x8192 ![1] bcast_S8192_S1x8192_1 v)

/-- The same codes transposed. -/
def XCT (x : FVec Ideal S2x6144x8192 .fp8e4m3) (s r : FVec Ideal S2x6144 .f32) (g v : FVec Ideal S8192 .f32) :
    FVec Ideal S8192x12288 .fp8e4m3 :=
  k0_pay4 (shapeCast S12288x8192 x shapeCasts_S2x6144x8192_S12288x8192) (shapeCast S12288x1 s shapeCasts_S2x6144_S12288x1)
    (shapeCast S12288x1 r shapeCasts_S2x6144_S12288x1) (broadcastInDim S1x8192 ![1] bcast_S8192_S1x8192_1 g)
    (broadcastInDim S1x8192 ![1] bcast_S8192_S1x8192_1 v)

/-- The incoming gradient's codes of whole operands (gradient, inverse scale). -/
def QC (q : FVec Ideal S2x6144x10240 .bf16) (v : FVec Ideal S10240 .f32) : FVec Ideal S12288x10240 .fp8e4m3 :=
  k0_pay1 (k0_pay5 (shapeCast S12288x10240 q shapeCasts_S2x6144x10240_S12288x10240)
    (broadcastInDim S1x10240 ![1] bcast_S10240_S1x10240_1 v)) (Scalar.ofBits .f32 0x43E00000#32) (k0_pay6 (F := Ideal))

/-- The batch a row belongs to, and its place there. -/
def bat (r : Fin 12288) : Fin 2 := ⟨r.val / 6144, by omega⟩
@[inherit_doc bat] def pos (r : Fin 12288) : Fin 6144 := ⟨r.val % 6144, by omega⟩

/-- One entry of `XC`. -/
theorem XC_apply (x : FVec Ideal S2x6144x8192 .fp8e4m3) (s r : FVec Ideal S2x6144 .f32) (g v : FVec Ideal S8192 .f32)
    (y : S12288x8192.Idx) :
    XC x s r g v y = min (Ideal.ofBits .f32 1138753536#32) (max (Ideal.ofBits .f32 3286237184#32)
      (x (ix3 (bat (y 0)) (pos (y 0)) (y 1)) * s (ix2 (bat (y 0)) (pos (y 0))) * r (ix2 (bat (y 0)) (pos (y 0)))
        * g (ix1 (y 1)) * v (ix1 (y 1)))) := by
  pointwise [XC, k0_pay3, k0_pay2]
  simp only [bat, pos]

/-- One entry of `XCT`. -/
theorem XCT_apply (x : FVec Ideal S2x6144x8192 .fp8e4m3) (s r : FVec Ideal S2x6144 .f32) (g v : FVec Ideal S8192 .f32)
    (y : S8192x12288.Idx) :
    XCT x s r g v y = min (Ideal.ofBits .f32 1138753536#32) (max (Ideal.ofBits .f32 3286237184#32)
      (x (ix3 (bat (y 1)) (pos (y 1)) (y 0)) * s (ix2 (bat (y 1)) (pos (y 1))) * r (ix2 (bat (y 1)) (pos (y 1)))
        * g (ix1 (y 0)) * v (ix1 (y 0)))) := by
  pointwise [XCT, k0_pay4, k0_pay2]
  simp only [bat, pos]

/-- One entry of `QC`. -/
theorem QC_apply (q : FVec Ideal S2x6144x10240 .bf16) (v : FVec Ideal S10240 .f32) (y : S12288x10240.Idx) :
    QC q v y = min (Ideal.ofBits .f32 1138753536#32) (max (Ideal.ofBits .f32 3286237184#32)
      (q (ix3 (bat (y 0)) (pos (y 0)) (y 1)) * v (ix1 (y 1)))) := by
  pointwise [QC, k0_pay1, k0_pay5, k0_pay6]
  simp only [bat, pos]

/-- What the reference leaves in its result 0. -/
theorem final7 (c : Dev nD) : (dats m 0 c).arrAt 7 cfg0.N
    = XC (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_0 (by decide +kernel) _ fun j => ?_
  blk_simp
  rw [after0_7]
  frame_out
  pointwise [k0_pay3, k0_pay2, XC]
  blk_point [iblk, V, idx t0_0]

/-- What the reference leaves in its result 1. -/
theorem final8 (c : Dev nD) : (dats m 0 c).arrAt 8 cfg0.N
    = XCT (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_0 (by decide +kernel) _ fun j => ?_
  blk_simp
  rw [after0_8]
  frame_out
  pointwise [k0_pay4, k0_pay2, XCT]
  blk_point [iblk, V, idx t0_0]

/-- What the reference leaves in its result 2. -/
theorem final9 (c : Dev nD) : (dats m 0 c).arrAt 9 cfg0.N
    = QC (m ((c : Thread nD τ).loc main_arg5)) (m ((c : Thread nD τ).loc main_arg6)) := by
  refine (dats m 0 c).arrAt_eq_of_after_last 9 t0_0 (by decide +kernel) _ fun j => ?_
  blk_simp
  rw [after0_9]
  frame_out
  pointwise [k0_pay1, k0_pay5, k0_pay6, QC]
  blk_point [iblk, V, idx t0_0]

end Cert.QuRefIdeal.Val

end
-- ==== Proof.QuValue.lean ====
module

public import proofs.«01_k».proof.Proof.Gen.QuIdeal.Frame
public import proofs.«01_k».proof.Proof.QuRef
public import Idealize.ShloMosaic.Lib.Claim

/-! # The quantiser's kernel computes the reference's codes

The grid walks the rows in bands of 128. At each point the kernel quantises one band; the band is the block of the
reference's result at its place (for the transposed codes a band of columns), and the bands cover the results. -/

set_option maxRecDepth 16384

noncomputable section

@[expose] public section

namespace Cert.QuIdeal.Val

open Idealize.ShloMosaic Idealize.ShloMosaic.TcCoe Idealize.ShloMosaic.Tactic
open Cert.QuIdeal Cert.QuIdeal.Gen
open Idealize.ShloMosaic.Pipeline (Dat)
open Cert.QuRefIdeal.Val (bat pos)

variable (m : (ℓ : Loc nD τ sig) → Buf (Elt Ideal) ℓ)

/-- Point `t` is band `t` of the rows. -/
theorem idx : ∀ t : Fin cfg0.N, win0_0.index t = ![t.1, 0] ∧ win0_1.index t = ![t.1, 0] ∧ win0_2.index t = ![t.1, 0]
    ∧ win0_3.index t = ![0, 0] ∧ win0_4.index t = ![0, 0] ∧ win0_5.index t = ![t.1, 0] ∧ win0_6.index t = ![0, 0]
    ∧ win0_7.index t = ![t.1, 0] ∧ win0_8.index t = ![0, t.1] ∧ win0_9.index t = ![t.1, 0] :=
  (by decide +kernel : ∀ t : Fin grid0.N, _)

/-! The operands the host reshaped, entry by entry, as the kernel finds them. -/

/-- One entry of the reshaped argument 0. -/
theorem V0_apply (c : Dev nD) (z : S12288x8192.Idx) :
    V m c main_v0 z = m ((c : Thread nD τ).loc main_arg0) (ix3 (bat (z 0)) (pos (z 0)) (z 1)) := by
  entry_read
  pointwise
  simp only [bat, pos]

/-- One entry of the reshaped argument 5. -/
theorem V1_apply (c : Dev nD) (z : S12288x10240.Idx) :
    V m c main_v1 z = m ((c : Thread nD τ).loc main_arg5) (ix3 (bat (z 0)) (pos (z 0)) (z 1)) := by
  entry_read
  pointwise
  simp only [bat, pos]

/-- One entry of the reshaped argument 1. -/
theorem V2_apply (c : Dev nD) (z : S12288x1.Idx) :
    V m c main_v2 z = m ((c : Thread nD τ).loc main_arg1) (ix2 (bat (z 0)) (pos (z 0))) := by
  entry_read
  pointwise
  simp only [bat, pos]

/-- One entry of the reshaped argument 2. -/
theorem V3_apply (c : Dev nD) (z : S12288x1.Idx) :
    V m c main_v3 z = m ((c : Thread nD τ).loc main_arg2) (ix2 (bat (z 0)) (pos (z 0))) := by
  entry_read
  pointwise
  simp only [bat, pos]

/-- One entry of the reshaped argument 3. -/
theorem V4_apply (c : Dev nD) (z : S1x8192.Idx) :
    V m c main_v4 z = m ((c : Thread nD τ).loc main_arg3) (ix1 (z 1)) := by
  entry_read
  pointwise

/-- One entry of the reshaped argument 4. -/
theorem V5_apply (c : Dev nD) (z : S1x8192.Idx) :
    V m c main_v5 z = m ((c : Thread nD τ).loc main_arg4) (ix1 (z 1)) := by
  entry_read
  pointwise

/-- One entry of the reshaped argument 6. -/
theorem V6_apply (c : Dev nD) (z : S1x10240.Idx) :
    V m c main_v6 z = m ((c : Thread nD τ).loc main_arg6) (ix1 (z 1)) := by
  entry_read
  pointwise

/-- One entry of the block window 0 holds at point `t`. -/
theorem rd0 (c : Dev nD) (t : Fin cfg0.N) (p : Fin 128) (r : Fin 12288) (h : r.val = t.1 * 128 + p.val) (d e : Fin 8192) (he : e = d) :
    iblk m c 0 t (ix2 p d) = m ((c : Thread nD τ).loc main_arg0) (ix3 (bat r) (pos r) e) := by
  subst he
  refine Eq.trans ?_ (V0_apply m c (ix2 r e))
  show V m c main_v0 (((cfg0.win 0).blk t).view.emb (ix2 p e)) = V m c main_v0 (ix2 r e)
  refine congrArg _ ?_
  funext a
  apply Fin.ext
  fin_cases a
  · blk_simp [idx t]
    exact h.symm
  · blk_simp [idx t]
    rfl

/-- One entry of the block window 5 holds at point `t`. -/
theorem rd5 (c : Dev nD) (t : Fin cfg0.N) (p : Fin 128) (r : Fin 12288) (h : r.val = t.1 * 128 + p.val) (d e : Fin 10240) (he : e = d) :
    iblk m c 5 t (ix2 p d) = m ((c : Thread nD τ).loc main_arg5) (ix3 (bat r) (pos r) e) := by
  subst he
  refine Eq.trans ?_ (V1_apply m c (ix2 r e))
  show V m c main_v1 (((cfg0.win 5).blk t).view.emb (ix2 p e)) = V m c main_v1 (ix2 r e)
  refine congrArg _ ?_
  funext a
  apply Fin.ext
  fin_cases a
  · blk_simp [idx t]
    exact h.symm
  · blk_simp [idx t]
    rfl

/-- One entry of the block window 1 holds at point `t`. -/
theorem rd1 (c : Dev nD) (t : Fin cfg0.N) (p : Fin 128) (r : Fin 12288) (h : r.val = t.1 * 128 + p.val) :
    iblk m c 1 t (ix2 p 0) = m ((c : Thread nD τ).loc main_arg1) (ix2 (bat r) (pos r)) := by
  refine Eq.trans ?_ (V2_apply m c (ix2 r 0))
  show V m c main_v2 (((cfg0.win 1).blk t).view.emb (ix2 p 0)) = V m c main_v2 (ix2 r 0)
  refine congrArg _ ?_
  funext a
  apply Fin.ext
  fin_cases a
  · blk_simp [idx t]
    exact h.symm
  · blk_simp [idx t]

/-- One entry of the block window 2 holds at point `t`. -/
theorem rd2 (c : Dev nD) (t : Fin cfg0.N) (p : Fin 128) (r : Fin 12288) (h : r.val = t.1 * 128 + p.val) :
    iblk m c 2 t (ix2 p 0) = m ((c : Thread nD τ).loc main_arg2) (ix2 (bat r) (pos r)) := by
  refine Eq.trans ?_ (V3_apply m c (ix2 r 0))
  show V m c main_v3 (((cfg0.win 2).blk t).view.emb (ix2 p 0)) = V m c main_v3 (ix2 r 0)
  refine congrArg _ ?_
  funext a
  apply Fin.ext
  fin_cases a
  · blk_simp [idx t]
    exact h.symm
  · blk_simp [idx t]

/-- One entry of the block window 3 holds at point `t`. -/
theorem rd3 (c : Dev nD) (t : Fin cfg0.N) (d e : Fin 8192) (he : e = d) :
    iblk m c 3 t (ix2 0 d) = m ((c : Thread nD τ).loc main_arg3) (ix1 e) := by
  subst he
  refine Eq.trans ?_ (V4_apply m c (ix2 0 e))
  show V m c main_v4 (((cfg0.win 3).blk t).view.emb (ix2 0 e)) = V m c main_v4 (ix2 0 e)
  refine congrArg _ ?_
  funext a
  apply Fin.ext
  fin_cases a
  · blk_simp [idx t]
  · blk_simp [idx t]

/-- One entry of the block window 4 holds at point `t`. -/
theorem rd4 (c : Dev nD) (t : Fin cfg0.N) (d e : Fin 8192) (he : e = d) :
    iblk m c 4 t (ix2 0 d) = m ((c : Thread nD τ).loc main_arg4) (ix1 e) := by
  subst he
  refine Eq.trans ?_ (V5_apply m c (ix2 0 e))
  show V m c main_v5 (((cfg0.win 4).blk t).view.emb (ix2 0 e)) = V m c main_v5 (ix2 0 e)
  refine congrArg _ ?_
  funext a
  apply Fin.ext
  fin_cases a
  · blk_simp [idx t]
  · blk_simp [idx t]

/-- One entry of the block window 6 holds at point `t`. -/
theorem rd6 (c : Dev nD) (t : Fin cfg0.N) (d e : Fin 10240) (he : e = d) :
    iblk m c 6 t (ix2 0 d) = m ((c : Thread nD τ).loc main_arg6) (ix1 e) := by
  subst he
  refine Eq.trans ?_ (V6_apply m c (ix2 0 e))
  show V m c main_v6 (((cfg0.win 6).blk t).view.emb (ix2 0 e)) = V m c main_v6 (ix2 0 e)
  refine congrArg _ ?_
  funext a
  apply Fin.ext
  fin_cases a
  · blk_simp [idx t]
  · blk_simp [idx t]

/-- One entry of the kernel's block of codes, over its operands' blocks. -/
theorem pay3_apply (v0 : FVec Ideal S128x8192 .fp8e4m3) (v3 v7 : FVec Ideal S128x1 .f32) (v11 v15 : FVec Ideal S1x8192 .f32)
    (y : S128x8192.Idx) :
    k0_pay3 (F := Ideal) v0 v3 v7 v11 v15 y = min (Ideal.ofBits .f32 1138753536#32) (max (Ideal.ofBits .f32 3286237184#32)
      (v0 (ix2 (y 0) (y 1)) * v3 (ix2 (y 0) 0) * v7 (ix2 (y 0) 0) * v11 (ix2 0 (y 1)) * v15 (ix2 0 (y 1)))) := by
  pointwise [k0_pay3, k0_pay2]

/-- One entry of the kernel's block of transposed codes, over its operands' blocks. -/
theorem pay4_apply (v0 : FVec Ideal S128x8192 .fp8e4m3) (v3 v7 : FVec Ideal S128x1 .f32) (v11 v15 : FVec Ideal S1x8192 .f32)
    (y : S8192x128.Idx) :
    k0_pay4 (F := Ideal) v0 v3 v7 v11 v15 y = min (Ideal.ofBits .f32 1138753536#32) (max (Ideal.ofBits .f32 3286237184#32)
      (v0 (ix2 (y 1) (y 0)) * v3 (ix2 (y 1) 0) * v7 (ix2 (y 1) 0) * v11 (ix2 0 (y 0)) * v15 (ix2 0 (y 0)))) := by
  pointwise [k0_pay4, k0_pay2]

/-- One entry of the kernel's block of the gradient's codes, over its operands' blocks. -/
theorem pay1_apply (v28 : FVec Ideal S128x10240 .bf16) (v31 : FVec Ideal S1x10240 .f32) (y : S128x10240.Idx) :
    k0_pay1 (F := Ideal) (k0_pay5 (F := Ideal) v28 v31) (Scalar.ofBits .f32 0xC3E00000#32) (Scalar.ofBits .f32 0x43E00000#32) y
      = min (Ideal.ofBits .f32 1138753536#32) (max (Ideal.ofBits .f32 3286237184#32)
        (v28 (ix2 (y 0) (y 1)) * v31 (ix2 0 (y 1)))) := by
  pointwise [k0_pay1, k0_pay5]

/-- One block of result 0: the kernel's payload at a point is the reference's result under the block. -/
theorem point7 (c : Dev nD) (t : Fin cfg0.N) (y : S128x8192.Idx) :
    k0_pay3 (iblk m c 0 t) (iblk m c 1 t) (iblk m c 2 t) (iblk m c 3 t) (iblk m c 4 t) y
      = Cert.QuRefIdeal.Val.XC (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  have hr : ((((cfg0.win 7).blk t).view.emb y) 0).val = t.1 * 128 + (y 0).val := by blk_simp [idx t]
  have hd : (((cfg0.win 7).blk t).view.emb y) 1 = y 1 := by
    apply Fin.ext
    blk_simp [idx t]
  rw [pay3_apply, Cert.QuRefIdeal.Val.XC_apply]
  refine congrArg (min (Ideal.ofBits .f32 1138753536#32)) (congrArg (max (Ideal.ofBits .f32 3286237184#32)) ?_)
  exact congrArg₂ (fun a b : EReal => a * b) (congrArg₂ (fun a b : EReal => a * b) (congrArg₂ (fun a b : EReal => a * b) (congrArg₂ (fun a b : EReal => a * b) (rd0 m c t (y 0) _ hr (y 1) _ hd) (rd1 m c t (y 0) _ hr)) (rd2 m c t (y 0) _ hr)) (rd3 m c t (y 1) _ hd)) (rd4 m c t (y 1) _ hd)

/-- What the kernel leaves in its result 0. -/
theorem final7 (c : Dev nD) : (dats m 0 c).arrAt 7 cfg0.N
    = Cert.QuRefIdeal.Val.XC (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  frame_out
  exact point7 m c t y

/-- One block of result 1: the kernel's payload at a point is the reference's result under the block. -/
theorem point8 (c : Dev nD) (t : Fin cfg0.N) (y : S8192x128.Idx) :
    k0_pay4 (iblk m c 0 t) (iblk m c 1 t) (iblk m c 2 t) (iblk m c 3 t) (iblk m c 4 t) y
      = Cert.QuRefIdeal.Val.XCT (m ((c : Thread nD τ).loc main_arg0)) (m ((c : Thread nD τ).loc main_arg1)) (m ((c : Thread nD τ).loc main_arg2)) (m ((c : Thread nD τ).loc main_arg3)) (m ((c : Thread nD τ).loc main_arg4)) (((cfg0.win 8).blk t).view.emb y) := by
  have hr : ((((cfg0.win 8).blk t).view.emb y) 1).val = t.1 * 128 + (y 1).val := by blk_simp [idx t]
  have hd : (((cfg0.win 8).blk t).view.emb y) 0 = y 0 := by
    apply Fin.ext
    blk_simp [idx t]
  rw [pay4_apply, Cert.QuRefIdeal.Val.XCT_apply]
  refine congrArg (min (Ideal.ofBits .f32 1138753536#32)) (congrArg (max (Ideal.ofBits .f32 3286237184#32)) ?_)
  exact congrArg₂ (fun a b : EReal => a * b) (congrArg₂ (fun a b : EReal => a * b) (congrArg₂ (fun a b : EReal => a * b) (congrArg₂ (fun a b : EReal => a * b) (rd0 m c t (y 1) _ hr (y 0) _ hd) (rd1 m c t (y 1) _ hr)) (rd2 m c t (y 1) _ hr)) (rd3 m c t (y 0) _ hd)) (rd4 m c t (y 0) _ hd)

/-- What the kernel leaves in its result 1. -/
theorem final8 (c : Dev nD) : (dats m 0 c).arrAt 8 cfg0.N
    = Cert.QuRefIdeal.Val.XCT (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  frame_out
  exact point8 m c t y

/-- One block of result 2: the kernel's payload at a point is the reference's result under the block. -/
theorem point9 (c : Dev nD) (t : Fin cfg0.N) (y : S128x10240.Idx) :
    k0_pay1 (k0_pay5 (iblk m c 5 t) (iblk m c 6 t)) (Scalar.ofBits .f32 0xC3E00000#32) (Scalar.ofBits .f32 0x43E00000#32) y
      = Cert.QuRefIdeal.Val.QC (m ((c : Thread nD τ).loc main_arg5)) (m ((c : Thread nD τ).loc main_arg6)) (((cfg0.win 9).blk t).view.emb y) := by
  have hr : ((((cfg0.win 9).blk t).view.emb y) 0).val = t.1 * 128 + (y 0).val := by blk_simp [idx t]
  have hd : (((cfg0.win 9).blk t).view.emb y) 1 = y 1 := by
    apply Fin.ext
    blk_simp [idx t]
  rw [pay1_apply, Cert.QuRefIdeal.Val.QC_apply]
  refine congrArg (min (Ideal.ofBits .f32 1138753536#32)) (congrArg (max (Ideal.ofBits .f32 3286237184#32)) ?_)
  exact congrArg₂ (fun a b : EReal => a * b) (rd5 m c t (y 0) _ hr (y 1) _ hd) (rd6 m c t (y 1) _ hd)

/-- What the kernel leaves in its result 2. -/
theorem final9 (c : Dev nD) : (dats m 0 c).arrAt 9 cfg0.N
    = Cert.QuRefIdeal.Val.QC (m ((c : Thread nD τ).loc main_arg5)) (m ((c : Thread nD τ).loc main_arg6)) := by
  refine (dats m 0 c).arrAt_eq_of_covers 9 _ (by decide +kernel) fun t _ y => ?_
  blk_simp
  rw [after0_9]
  frame_out
  exact point9 m c t y

end Cert.QuIdeal.Val

end
-- ==== Proof.QuClaim.lean ====
module

public import proofs.«01_k».proof.Defs
public import proofs.«01_k».proof.Proof.QuValue
public import Idealize.ShloMosaic.Lib.Claim

/-! # The kernel and the reference agree over the reals -/

set_option maxRecDepth 16384

open Idealize.ShloMosaic Idealize.ShloMosaic.TcCoe Idealize.ShloMosaic.Tactic Idealize.SL.Sem

noncomputable section

@[expose] public section

set_option maxHeartbeats 4000000 in
/-- The two programs leave equal results when they start from equal arguments. -/
theorem Cert.QuIdeal.Val.algebraic : Cert.algebraic_QuIdeal_QuRefIdeal := by
  pair_intro
  · run_from Cert.QuIdeal.Gen.run_main m g
  · run_from Cert.QuRefIdeal.Gen.run_main m' g'
    · exact (Cert.QuRefIdeal.Val.final7 m' _).trans ((congr (congr (congr (congr (congrArg Cert.QuRefIdeal.Val.XC (hagree _).1) (hagree _).2.1) (hagree _).2.2.1) (hagree _).2.2.2.1) (hagree _).2.2.2.2.1).trans (Cert.QuIdeal.Val.final7 m _).symm)
    · exact (Cert.QuRefIdeal.Val.final8 m' _).trans ((congr (congr (congr (congr (congrArg Cert.QuRefIdeal.Val.XCT (hagree _).1) (hagree _).2.1) (hagree _).2.2.1) (hagree _).2.2.2.1) (hagree _).2.2.2.2.1).trans (Cert.QuIdeal.Val.final8 m _).symm)
    · exact (Cert.QuRefIdeal.Val.final9 m' _).trans ((congr (congrArg Cert.QuRefIdeal.Val.QC (hagree _).2.2.2.2.2.1) (hagree _).2.2.2.2.2.2).trans (Cert.QuIdeal.Val.final9 m _).symm)

end
-- ==== Proof.DxBody.lean ====
module

public import proofs.«01_k».proof.Proof.Gen.Dx.Frame
public import proofs.«01_k».proof.Proof.Gen.Dx.Skeleton
public import Idealize.ShloMosaic.Lib.VecWindow

/-! # One grid point of the kernel

The kernel carries four scratch buffers from point to point. Here each of its four kinds of point is run once, from any
contents of the scratch: what the body leaves in the scratch and in its results is one step of the plain functions
below. -/

@[expose] public section

set_option maxRecDepth 16384

noncomputable section

namespace Cert.Dx.Hand

open Cert.Dx Cert.Dx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the scratch: the product's blocks of one band of rows, the running row sums, the row means, and the
    running sums over rows. -/
structure St (F : FTy → Type) where
  acc : Vec F S16x512x512 .f32
  sum : Vec F S512x128 .f32
  mean : Vec F S512x1 .f32
  dga : Vec F S16x8x512 .f32

/-- The scratch the first point starts from. -/
def zeroSt : St F := ⟨k0_pay1, k0_pay2, k0_pay3, k0_pay4⟩

/-- Whether the point is the first, as the body computes it. -/
def k0_first (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The running row sums with the previous block's part added. -/
def totalA (i : grid0.Coords) (h : k0_cond2 i = 1#1) (x3 : Vec F S512x512 .fp8e4m3) (x4 x5 : Vec F S512x1 .f32) (x6 : Vec F S1x512 .f32) (s : St F) : FVec F S512x128 .f32 :=
  k0_pay13 (View.ld s.acc (Rect.unit (s := S16x512x512) (k0_off1 i) S1x512x512.size (k0_off1_inb i h))) x3 x4 x5 x6 s.sum

/-- One step of the scratch: the previous block enters the sums, the point's block of the product is stored. -/
def stepA (i : grid0.Coords) (h : k0_cond2 i = 1#1) (x0 : Vec F S512x10240 .bf16) (x1 : Vec F S512x10240 .fp8e4m3) (x2 : Vec F S1x10240 .f32)
    (x3 : Vec F S512x512 .fp8e4m3) (x4 x5 : Vec F S512x1 .f32) (x6 : Vec F S1x512 .f32) (_x7 : Vec F S512x512 .fp8e4m3) (_x8 _x9 : Vec F S512x1 .f32) (_x10 : Vec F S1x512 .f32) (s : St F) : St F where
  acc := VecWindow.put s.acc (k0_off3 i) S1x512x512.size (k0_pay6 x1 x2 x0)
  sum := k0_pay15 (totalA i h x3 x4 x5 x6 s) (Scalar.cmpi .eq (BitVec.ofNat 32 (i 1).val) 0#32) (k0_pay14 (F := F))
  mean := k0_pay16 (BitVec.ofNat 32 (i 1).val) (totalA i h x3 x4 x5 x6 s) s.mean
  dga := VecWindow.put s.dga (k0_off2 i) S1x8x512.size
    (k0_pay12 (View.ld s.acc (Rect.unit (s := S16x512x512) (k0_off1 i) S1x512x512.size (k0_off1_inb i h))) x3 x4 x5
      (View.ld s.dga (Rect.unit (s := S16x8x512) (k0_off2 i) S1x8x512.size (k0_off2_inb i h))))

/-- The block of the result such a point leaves. -/
def outA (i : grid0.Coords) (h : k0_cond2 i = 1#1) (x0 : Vec F S512x10240 .bf16) (x1 : Vec F S512x10240 .fp8e4m3) (x2 : Vec F S1x10240 .f32)
    (x3 : Vec F S512x512 .fp8e4m3) (x4 x5 : Vec F S512x1 .f32) (x6 : Vec F S1x512 .f32) (x7 : Vec F S512x512 .fp8e4m3) (x8 x9 : Vec F S512x1 .f32) (x10 : Vec F S1x512 .f32) (s : St F) : Vec F S512x512 .bf16 :=
  k0_pay5 (k0_pay17 x7 x8 x9) (k0_pay18 (View.ld s.acc (Rect.unit (s := S16x512x512) (k0_off3 i) S1x512x512.size (k0_off3_inb i h))) x10) (k0_pay19 x9)
    (stepA i h x0 x1 x2 x3 x4 x5 x6 x7 x8 x9 x10 s).mean

/-- The running row sums with the last block's part added. -/
def totalC (i : grid0.Coords) (h : k0_cond3 i = 1#1) (h4 : k0_cond4 i = 1#1) (x3 : Vec F S512x512 .fp8e4m3) (x4 x5 : Vec F S512x1 .f32) (x6 : Vec F S1x512 .f32) (s : St F) : FVec F S512x128 .f32 :=
  k0_pay22 (View.ld s.acc (Rect.unit (s := S16x512x512) (k0_off4 i) S1x512x512.size (k0_off4_inb i h h4))) x3 x4 x5 x6 s.sum

/-- The last step of the sums. -/
def stepC (i : grid0.Coords) (h : k0_cond3 i = 1#1) (h4 : k0_cond4 i = 1#1) (_x0 : Vec F S512x10240 .bf16) (_x1 : Vec F S512x10240 .fp8e4m3) (_x2 : Vec F S1x10240 .f32)
    (x3 : Vec F S512x512 .fp8e4m3) (x4 x5 : Vec F S512x1 .f32) (x6 : Vec F S1x512 .f32) (_x7 : Vec F S512x512 .fp8e4m3) (_x8 _x9 : Vec F S512x1 .f32) (_x10 : Vec F S1x512 .f32) (s : St F) : St F where
  acc := s.acc
  sum := k0_pay7 (totalC i h h4 x3 x4 x5 x6 s) (Scalar.cmpi .eq (BitVec.ofNat 32 (i 1).val) 0#32) (k0_pay23 (F := F))
  mean := k0_pay8 i (totalC i h h4 x3 x4 x5 x6 s) s.mean
  dga := VecWindow.put s.dga (k0_off5 i) S1x8x512.size
    (k0_pay21 (View.ld s.acc (Rect.unit (s := S16x512x512) (k0_off4 i) S1x512x512.size (k0_off4_inb i h h4))) x3 x4 x5
      (View.ld s.dga (Rect.unit (s := S16x8x512) (k0_off5 i) S1x8x512.size (k0_off5_inb i h h4))))

/-- The sums over rows as given out. -/
def dgC (s : St F) : Vec F S16x1x512 .f32 := k0_pay9 s.dga

/-- The block of the result a point of the last row leaves. -/
def outC (i : grid0.Coords) (h : k0_cond3 i = 1#1) (_x0 : Vec F S512x10240 .bf16) (_x1 : Vec F S512x10240 .fp8e4m3) (_x2 : Vec F S1x10240 .f32)
    (_x3 : Vec F S512x512 .fp8e4m3) (_x4 _x5 : Vec F S512x1 .f32) (_x6 : Vec F S1x512 .f32) (x7 : Vec F S512x512 .fp8e4m3) (x8 x9 : Vec F S512x1 .f32) (x10 : Vec F S1x512 .f32) (s : St F) : Vec F S512x512 .bf16 :=
  k0_pay10 x7 x8 x9 (View.ld s.acc (Rect.unit (s := S16x512x512) (k0_off6 i) S1x512x512.size (k0_off6_inb i h))) x10 x9 s.mean

set_option maxHeartbeats 8000000 in
/-- The body at a point that is not the first, before the last row of points: one step of every scratch. -/
theorem sound_step (c : Dev nD) (E : Set ℕ) (i : grid0.Coords) (h1 : ¬ (k0_first i = 1#1)) (h2 : k0_cond2 i = 1#1) (h3 : ¬ k0_cond3 i = 1#1) (arg2 : Memref sig .tc .vmem S512x10240 .bf16) (harg2 : arg2.IsWhole) (arg3 : Memref sig .tc .vmem S512x10240 .fp8e4m3) (harg3 : arg3.IsWhole) (arg4 : Memref sig .tc .vmem S1x10240 .f32) (harg4 : arg4.IsWhole) (arg5 : Memref sig .tc .vmem S512x512 .fp8e4m3) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512 .f32) (harg8 : arg8.IsWhole) (arg9 : Memref sig .tc .vmem S512x512 .fp8e4m3) (harg9 : arg9.IsWhole) (arg10 : Memref sig .tc .vmem S512x1 .f32) (harg10 : arg10.IsWhole) (arg11 : Memref sig .tc .vmem S512x1 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S16x1x512 .f32) (harg14 : arg14.IsWhole) (arg15 : Memref sig .tc .vmem S16x512x512 .f32) (harg15 : arg15.IsWhole) (arg16 : Memref sig .tc .vmem S512x128 .f32) (harg16 : arg16.IsWhole) (arg17 : Memref sig .tc .vmem S512x1 .f32) (harg17 : arg17.IsWhole) (arg18 : Memref sig .tc .vmem S16x8x512 .f32) (harg18 : arg18.IsWhole)
    (x0 : Vec F S512x10240 .bf16) (x1 : Vec F S512x10240 .fp8e4m3) (x2 : Vec F S1x10240 .f32) (x3 : Vec F S512x512 .fp8e4m3) (x4 : Vec F S512x1 .f32) (x5 : Vec F S512x1 .f32) (x6 : Vec F S1x512 .f32) (x7 : Vec F S512x512 .fp8e4m3) (x8 : Vec F S512x1 .f32) (x9 : Vec F S512x1 .f32) (x10 : Vec F S1x512 .f32) (x12 : Vec F S16x1x512 .f32) (xa : Vec F S16x512x512 .f32) (xt : Vec F S512x128 .f32) (xm : Vec F S512x1 .f32) (xd : Vec F S16x8x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare x12 ∗ owns (c : Thread nD τ) arg15 fullShare xa ∗ owns (c : Thread nD τ) arg16 fullShare xt ∗ owns (c : Thread nD τ) arg17 fullShare xm ∗ owns (c : Thread nD τ) arg18 fullShare xd
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (outA i h2 x0 x1 x2 x3 x4 x5 x6 x7 x8 x9 x10 ⟨xa, xt, xm, xd⟩) ∗ owns (c : Thread nD τ) arg14 fullShare x12 ∗ owns (c : Thread nD τ) arg15 fullShare (stepA i h2 x0 x1 x2 x3 x4 x5 x6 x7 x8 x9 x10 ⟨xa, xt, xm, xd⟩).acc ∗ owns (c : Thread nD τ) arg16 fullShare (stepA i h2 x0 x1 x2 x3 x4 x5 x6 x7 x8 x9 x10 ⟨xa, xt, xm, xd⟩).sum ∗ owns (c : Thread nD τ) arg17 fullShare (stepA i h2 x0 x1 x2 x3 x4 x5 x6 x7 x8 x9 x10 ⟨xa, xt, xm, xd⟩).mean ∗ owns (c : Thread nD τ) arg18 fullShare (stepA i h2 x0 x1 x2 x3 x4 x5 x6 x7 x8 x9 x10 ⟨xa, xt, xm, xd⟩).dga) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_dx_eq_skeleton]; unfold cc0_dx_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, ⟨%f16, %hf16, H16⟩, Hk⟩
  subst hf0 hf1 hf2 hf3 hf4 hf5 hf6 hf7 hf8 hf9 hf10 hf12 hf13 hf14 hf15 hf16
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_full _ _ _ _ _).trans ?_
    unfold outA
    show k0_pay5 (k0_pay17 _ _ _) (k0_pay18 _ _) (k0_pay19 _) _ = k0_pay5 (k0_pay17 _ _ _) (k0_pay18 _ _) (k0_pay19 _) _
    congr 1
    · congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
    · congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
    · congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
    · refine (View.readAt_writes_full _ _ _ _ _ _).trans ?_
      unfold stepA totalA
      dsimp only
      show k0_pay16 _ (k0_pay13 _ _ _ _ _ _) _ = k0_pay16 _ (k0_pay13 _ _ _ _ _ _) _
      congr 1
      · congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
      · first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl
  isplitl [H12]
  · iexists _; isplitr
    swap; · iexact H12
    ipureintro
    rfl
  isplitl [H13]
  · iexists _; isplitr
    swap; · iexact H13
    ipureintro
    refine (View.read_writes_cons_put _ _ _ _ _ rfl).trans ?_
    unfold stepA
    dsimp only
    congr 1
    congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
  isplitl [H14]
  · iexists _; isplitr
    swap; · iexact H14
    ipureintro
    refine (View.read_writes_full _ _ _ _ _).trans ?_
    unfold stepA totalA
    dsimp only
    show k0_pay15 (k0_pay13 _ _ _ _ _ _) _ _ = k0_pay15 (k0_pay13 _ _ _ _ _ _) _ _
    congr 1
    · congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
  isplitl [H15]
  · iexists _; isplitr
    swap; · iexact H15
    ipureintro
    refine (View.read_writes_full _ _ _ _ _).trans ?_
    unfold stepA totalA
    dsimp only
    show k0_pay16 _ (k0_pay13 _ _ _ _ _ _) _ = k0_pay16 _ (k0_pay13 _ _ _ _ _ _) _
    congr 1
    · congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
    · first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl
  iexists _; isplitr
  swap; · iexact H16
  ipureintro
  refine (View.read_writes_cons_put _ _ _ _ _ rfl).trans ?_
  unfold stepA
  dsimp only
  congr 1
  congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)

set_option maxHeartbeats 8000000 in
/-- The body at a later point of the last row: one block of the result is finished. -/
theorem sound_finish (c : Dev nD) (E : Set ℕ) (i : grid0.Coords) (h1 : ¬ (k0_first i = 1#1)) (h2 : ¬ k0_cond2 i = 1#1) (h3 : k0_cond3 i = 1#1) (h4 : ¬ k0_cond4 i = 1#1) (arg2 : Memref sig .tc .vmem S512x10240 .bf16) (harg2 : arg2.IsWhole) (arg3 : Memref sig .tc .vmem S512x10240 .fp8e4m3) (harg3 : arg3.IsWhole) (arg4 : Memref sig .tc .vmem S1x10240 .f32) (harg4 : arg4.IsWhole) (arg5 : Memref sig .tc .vmem S512x512 .fp8e4m3) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512 .f32) (harg8 : arg8.IsWhole) (arg9 : Memref sig .tc .vmem S512x512 .fp8e4m3) (harg9 : arg9.IsWhole) (arg10 : Memref sig .tc .vmem S512x1 .f32) (harg10 : arg10.IsWhole) (arg11 : Memref sig .tc .vmem S512x1 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S16x1x512 .f32) (harg14 : arg14.IsWhole) (arg15 : Memref sig .tc .vmem S16x512x512 .f32) (harg15 : arg15.IsWhole) (arg16 : Memref sig .tc .vmem S512x128 .f32) (harg16 : arg16.IsWhole) (arg17 : Memref sig .tc .vmem S512x1 .f32) (harg17 : arg17.IsWhole) (arg18 : Memref sig .tc .vmem S16x8x512 .f32) (harg18 : arg18.IsWhole)
    (x0 : Vec F S512x10240 .bf16) (x1 : Vec F S512x10240 .fp8e4m3) (x2 : Vec F S1x10240 .f32) (x3 : Vec F S512x512 .fp8e4m3) (x4 : Vec F S512x1 .f32) (x5 : Vec F S512x1 .f32) (x6 : Vec F S1x512 .f32) (x7 : Vec F S512x512 .fp8e4m3) (x8 : Vec F S512x1 .f32) (x9 : Vec F S512x1 .f32) (x10 : Vec F S1x512 .f32) (x12 : Vec F S16x1x512 .f32) (xa : Vec F S16x512x512 .f32) (xt : Vec F S512x128 .f32) (xm : Vec F S512x1 .f32) (xd : Vec F S16x8x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare x12 ∗ owns (c : Thread nD τ) arg15 fullShare xa ∗ owns (c : Thread nD τ) arg16 fullShare xt ∗ owns (c : Thread nD τ) arg17 fullShare xm ∗ owns (c : Thread nD τ) arg18 fullShare xd
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (outC i h3 x0 x1 x2 x3 x4 x5 x6 x7 x8 x9 x10 ⟨xa, xt, xm, xd⟩) ∗ owns (c : Thread nD τ) arg14 fullShare x12 ∗ owns (c : Thread nD τ) arg15 fullShare (⟨xa, xt, xm, xd⟩ : St F).acc ∗ owns (c : Thread nD τ) arg16 fullShare (⟨xa, xt, xm, xd⟩ : St F).sum ∗ owns (c : Thread nD τ) arg17 fullShare (⟨xa, xt, xm, xd⟩ : St F).mean ∗ owns (c : Thread nD τ) arg18 fullShare (⟨xa, xt, xm, xd⟩ : St F).dga) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_dx_eq_skeleton]; unfold cc0_dx_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, ⟨%f16, %hf16, H16⟩, Hk⟩
  subst hf0 hf1 hf2 hf3 hf4 hf5 hf6 hf7 hf8 hf9 hf10 hf12 hf13 hf14 hf15 hf16
  sl_exec (disch := first | sl_exact h1 | sl_exact h2 | sl_exact h3 | sl_exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_full _ _ _ _ _).trans ?_
    unfold outC
    dsimp only
    congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
  isplitl [H12]
  · iexists _; isplitr
    swap; · iexact H12
    ipureintro
    rfl
  isplitl [H13]
  · iexists _; isplitr
    swap; · iexact H13
    ipureintro
    rfl
  isplitl [H14]
  · iexists _; isplitr
    swap; · iexact H14
    ipureintro
    rfl
  isplitl [H15]
  · iexists _; isplitr
    swap; · iexact H15
    ipureintro
    rfl
  iexists _; isplitr
  swap; · iexact H16
  ipureintro
  rfl

/-- The closed form of the previous block's offsets. -/
theorem off1_closed (i : grid0.Coords) : k0_off1 i = ![((i 1).val + 15) % 16, 0, 0] := by
  unfold k0_off1
  generalize i 1 = x
  change Fin 16 at x
  revert x
  decide

/-- The closed form, as the run reads it. -/
local instance (i : grid0.Coords) : ClosedOff (k0_off1 i) := ⟨![((i 1).val + 15) % 16, 0, 0], off1_closed i⟩

/-- The closed form of the previous block's offsets. -/
theorem off2_closed (i : grid0.Coords) : k0_off2 i = ![((i 1).val + 15) % 16, 0, 0] := by
  unfold k0_off2
  generalize i 1 = x
  change Fin 16 at x
  revert x
  decide

/-- The closed form, as the run reads it. -/
local instance (i : grid0.Coords) : ClosedOff (k0_off2 i) := ⟨![((i 1).val + 15) % 16, 0, 0], off2_closed i⟩

/-- The closed form of the point's block's offsets. -/
theorem off3_closed (i : grid0.Coords) : k0_off3 i = ![(i 1).val, 0, 0] := by
  unfold k0_off3
  generalize i 1 = x
  change Fin 16 at x
  revert x
  decide

/-- The closed form, as the run reads it. -/
local instance (i : grid0.Coords) : ClosedOff (k0_off3 i) := ⟨![(i 1).val, 0, 0], off3_closed i⟩

/-- The closed form of the previous block's offsets. -/
theorem off4_closed (i : grid0.Coords) : k0_off4 i = ![((i 1).val + 15) % 16, 0, 0] := by
  unfold k0_off4
  generalize i 1 = x
  change Fin 16 at x
  revert x
  decide

/-- The closed form, as the run reads it. -/
local instance (i : grid0.Coords) : ClosedOff (k0_off4 i) := ⟨![((i 1).val + 15) % 16, 0, 0], off4_closed i⟩

/-- The closed form of the previous block's offsets. -/
theorem off5_closed (i : grid0.Coords) : k0_off5 i = ![((i 1).val + 15) % 16, 0, 0] := by
  unfold k0_off5
  generalize i 1 = x
  change Fin 16 at x
  revert x
  decide

/-- The closed form, as the run reads it. -/
local instance (i : grid0.Coords) : ClosedOff (k0_off5 i) := ⟨![((i 1).val + 15) % 16, 0, 0], off5_closed i⟩

/-- The closed form of the point's block's offsets. -/
theorem off6_closed (i : grid0.Coords) : k0_off6 i = ![(i 1).val, 0, 0] := by
  unfold k0_off6
  generalize i 1 = x
  change Fin 16 at x
  revert x
  decide

/-- The closed form, as the run reads it. -/
local instance (i : grid0.Coords) : ClosedOff (k0_off6 i) := ⟨![(i 1).val, 0, 0], off6_closed i⟩

set_option maxHeartbeats 8000000 in
/-- The body at the first point: the scratch is zeroed, then one step. -/
theorem sound_first (c : Dev nD) (E : Set ℕ) (i : grid0.Coords) (h1 : (k0_first i = 1#1)) (h2 : k0_cond2 i = 1#1) (h3 : ¬ k0_cond3 i = 1#1) (arg2 : Memref sig .tc .vmem S512x10240 .bf16) (harg2 : arg2.IsWhole) (arg3 : Memref sig .tc .vmem S512x10240 .fp8e4m3) (harg3 : arg3.IsWhole) (arg4 : Memref sig .tc .vmem S1x10240 .f32) (harg4 : arg4.IsWhole) (arg5 : Memref sig .tc .vmem S512x512 .fp8e4m3) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512 .f32) (harg8 : arg8.IsWhole) (arg9 : Memref sig .tc .vmem S512x512 .fp8e4m3) (harg9 : arg9.IsWhole) (arg10 : Memref sig .tc .vmem S512x1 .f32) (harg10 : arg10.IsWhole) (arg11 : Memref sig .tc .vmem S512x1 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S16x1x512 .f32) (harg14 : arg14.IsWhole) (arg15 : Memref sig .tc .vmem S16x512x512 .f32) (harg15 : arg15.IsWhole) (arg16 : Memref sig .tc .vmem S512x128 .f32) (harg16 : arg16.IsWhole) (arg17 : Memref sig .tc .vmem S512x1 .f32) (harg17 : arg17.IsWhole) (arg18 : Memref sig .tc .vmem S16x8x512 .f32) (harg18 : arg18.IsWhole)
    (x0 : Vec F S512x10240 .bf16) (x1 : Vec F S512x10240 .fp8e4m3) (x2 : Vec F S1x10240 .f32) (x3 : Vec F S512x512 .fp8e4m3) (x4 : Vec F S512x1 .f32) (x5 : Vec F S512x1 .f32) (x6 : Vec F S1x512 .f32) (x7 : Vec F S512x512 .fp8e4m3) (x8 : Vec F S512x1 .f32) (x9 : Vec F S512x1 .f32) (x10 : Vec F S1x512 .f32) (x12 : Vec F S16x1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (outA i h2 x0 x1 x2 x3 x4 x5 x6 x7 x8 x9 x10 zeroSt) ∗ owns (c : Thread nD τ) arg14 fullShare x12 ∗ owns (c : Thread nD τ) arg15 fullShare (stepA i h2 x0 x1 x2 x3 x4 x5 x6 x7 x8 x9 x10 zeroSt).acc ∗ owns (c : Thread nD τ) arg16 fullShare (stepA i h2 x0 x1 x2 x3 x4 x5 x6 x7 x8 x9 x10 zeroSt).sum ∗ owns (c : Thread nD τ) arg17 fullShare (stepA i h2 x0 x1 x2 x3 x4 x5 x6 x7 x8 x9 x10 zeroSt).mean ∗ owns (c : Thread nD τ) arg18 fullShare (stepA i h2 x0 x1 x2 x3 x4 x5 x6 x7 x8 x9 x10 zeroSt).dga) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_dx_eq_skeleton]; unfold cc0_dx_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, ⟨%d16, %f16, -, H16⟩, Hk⟩
  subst hf0 hf1 hf2 hf3 hf4 hf5 hf6 hf7 hf8 hf9 hf10 hf12
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_full _ _ _ _ _).trans ?_
    unfold outA
    show k0_pay5 (k0_pay17 _ _ _) (k0_pay18 _ _) (k0_pay19 _) _ = k0_pay5 (k0_pay17 _ _ _) (k0_pay18 _ _) (k0_pay19 _) _
    congr 1
    · congr 1
      · exact View.readAt_full _ _ _
      · exact View.readAt_full _ _ _
      · exact View.readAt_full _ _ _
    · congr 1
      · show View.ld (View.read (Elt F) _ _) _ = View.ld _ _
        exact congrArg (fun X => View.ld X (Rect.unit _ _ _)) (View.read_writes_full _ _ _ _ _)
      · exact View.readAt_full _ _ _
    · congr 1
      exact View.readAt_full _ _ _
    · refine (View.readAt_writes_full _ _ _ _ _ _).trans ?_
      unfold stepA totalA
      show k0_pay16 _ (k0_pay13 _ _ _ _ _ _) _ = k0_pay16 _ (k0_pay13 _ _ _ _ _ _) _
      congr 1
      · congr 1
        · show View.ld (View.read (Elt F) _ _) _ = View.ld _ _
          exact congrArg (fun X => View.ld X (Rect.unit _ _ _)) (View.read_writes_full _ _ _ _ _)
        · exact View.readAt_full _ _ _
        · exact View.readAt_full _ _ _
        · exact View.readAt_full _ _ _
        · exact View.readAt_full _ _ _
        · first | exact View.readCov_full _ _ _ _ _ | exact View.readAt_writes_full _ _ _ _ _ _
      · first | exact View.readCov_full _ _ _ _ _ | exact View.readAt_writes_full _ _ _ _ _ _
  isplitl [H12]
  · iexists _; isplitr
    swap; · iexact H12
    ipureintro
    rfl
  isplitl [H13]
  · iexists _; isplitr
    swap; · iexact H13
    ipureintro
    refine (View.read_writes_cons_put _ _ _ _ _ rfl).trans ?_
    unfold stepA
    show VecWindow.put _ _ _ _ = VecWindow.put k0_pay1 _ _ _
    congr 1
    · exact View.read_writes_full _ _ _ _ _
    · congr 1
      · exact View.readAt_full _ _ _
      · exact View.readAt_full _ _ _
      · exact View.readAt_full _ _ _
  isplitl [H14]
  · iexists _; isplitr
    swap; · iexact H14
    ipureintro
    refine (View.read_writes_full _ _ _ _ _).trans ?_
    unfold stepA totalA
    show k0_pay15 (k0_pay13 _ _ _ _ _ _) _ _ = k0_pay15 (k0_pay13 _ _ _ _ _ _) _ _
    congr 1
    congr 1
    · show View.ld (View.read (Elt F) _ _) _ = View.ld _ _
      exact congrArg (fun X => View.ld X (Rect.unit _ _ _)) (View.read_writes_full _ _ _ _ _)
    · exact View.readAt_full _ _ _
    · exact View.readAt_full _ _ _
    · exact View.readAt_full _ _ _
    · exact View.readAt_full _ _ _
    · first | exact View.readCov_full _ _ _ _ _ | exact View.readAt_writes_full _ _ _ _ _ _
  isplitl [H15]
  · iexists _; isplitr
    swap; · iexact H15
    ipureintro
    refine (View.read_writes_full _ _ _ _ _).trans ?_
    unfold stepA totalA
    show k0_pay16 _ (k0_pay13 _ _ _ _ _ _) _ = k0_pay16 _ (k0_pay13 _ _ _ _ _ _) _
    congr 1
    · congr 1
      · show View.ld (View.read (Elt F) _ _) _ = View.ld _ _
        exact congrArg (fun X => View.ld X (Rect.unit _ _ _)) (View.read_writes_full _ _ _ _ _)
      · exact View.readAt_full _ _ _
      · exact View.readAt_full _ _ _
      · exact View.readAt_full _ _ _
      · exact View.readAt_full _ _ _
      · first | exact View.readCov_full _ _ _ _ _ | exact View.readAt_writes_full _ _ _ _ _ _
    · first | exact View.readCov_full _ _ _ _ _ | exact View.readAt_writes_full _ _ _ _ _ _
  iexists _; isplitr
  swap; · iexact H16
  ipureintro
  refine (View.read_writes_cons_put _ _ _ _ _ rfl).trans ?_
  unfold stepA
  show VecWindow.put _ _ _ _ = VecWindow.put k0_pay4 _ _ _
  congr 1
  · exact View.read_writes_full _ _ _ _ _
  · congr 1
    · show View.ld (View.read (Elt F) _ _) _ = View.ld _ _
      exact congrArg (fun X => View.ld X (Rect.unit _ _ _)) (View.read_writes_full _ _ _ _ _)
    · exact View.readAt_full _ _ _
    · exact View.readAt_full _ _ _
    · exact View.readAt_full _ _ _
    · show View.ld (View.read (Elt F) _ _) _ = View.ld _ _
      exact congrArg (fun X => View.ld X (Rect.unit _ _ _)) (View.read_writes_full _ _ _ _ _)

set_option maxHeartbeats 8000000 in
/-- The body at the first point of the last row: the last block is reduced, the sums over rows are given out, and one block of the result is finished. -/
theorem sound_reduce (c : Dev nD) (E : Set ℕ) (i : grid0.Coords) (h1 : ¬ (k0_first i = 1#1)) (h2 : ¬ k0_cond2 i = 1#1) (h3 : k0_cond3 i = 1#1) (h4 : k0_cond4 i = 1#1) (arg2 : Memref sig .tc .vmem S512x10240 .bf16) (harg2 : arg2.IsWhole) (arg3 : Memref sig .tc .vmem S512x10240 .fp8e4m3) (harg3 : arg3.IsWhole) (arg4 : Memref sig .tc .vmem S1x10240 .f32) (harg4 : arg4.IsWhole) (arg5 : Memref sig .tc .vmem S512x512 .fp8e4m3) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512 .f32) (harg8 : arg8.IsWhole) (arg9 : Memref sig .tc .vmem S512x512 .fp8e4m3) (harg9 : arg9.IsWhole) (arg10 : Memref sig .tc .vmem S512x1 .f32) (harg10 : arg10.IsWhole) (arg11 : Memref sig .tc .vmem S512x1 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S16x1x512 .f32) (harg14 : arg14.IsWhole) (arg15 : Memref sig .tc .vmem S16x512x512 .f32) (harg15 : arg15.IsWhole) (arg16 : Memref sig .tc .vmem S512x128 .f32) (harg16 : arg16.IsWhole) (arg17 : Memref sig .tc .vmem S512x1 .f32) (harg17 : arg17.IsWhole) (arg18 : Memref sig .tc .vmem S16x8x512 .f32) (harg18 : arg18.IsWhole)
    (x0 : Vec F S512x10240 .bf16) (x1 : Vec F S512x10240 .fp8e4m3) (x2 : Vec F S1x10240 .f32) (x3 : Vec F S512x512 .fp8e4m3) (x4 : Vec F S512x1 .f32) (x5 : Vec F S512x1 .f32) (x6 : Vec F S1x512 .f32) (x7 : Vec F S512x512 .fp8e4m3) (x8 : Vec F S512x1 .f32) (x9 : Vec F S512x1 .f32) (x10 : Vec F S1x512 .f32) (xa : Vec F S16x512x512 .f32) (xt : Vec F S512x128 .f32) (xm : Vec F S512x1 .f32) (xd : Vec F S16x8x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ owns (c : Thread nD τ) arg15 fullShare xa ∗ owns (c : Thread nD τ) arg16 fullShare xt ∗ owns (c : Thread nD τ) arg17 fullShare xm ∗ owns (c : Thread nD τ) arg18 fullShare xd
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (outC i h3 x0 x1 x2 x3 x4 x5 x6 x7 x8 x9 x10 (stepC i h3 h4 x0 x1 x2 x3 x4 x5 x6 x7 x8 x9 x10 ⟨xa, xt, xm, xd⟩)) ∗ owns (c : Thread nD τ) arg14 fullShare (dgC (stepC i h3 h4 x0 x1 x2 x3 x4 x5 x6 x7 x8 x9 x10 ⟨xa, xt, xm, xd⟩)) ∗ owns (c : Thread nD τ) arg15 fullShare (stepC i h3 h4 x0 x1 x2 x3 x4 x5 x6 x7 x8 x9 x10 ⟨xa, xt, xm, xd⟩).acc ∗ owns (c : Thread nD τ) arg16 fullShare (stepC i h3 h4 x0 x1 x2 x3 x4 x5 x6 x7 x8 x9 x10 ⟨xa, xt, xm, xd⟩).sum ∗ owns (c : Thread nD τ) arg17 fullShare (stepC i h3 h4 x0 x1 x2 x3 x4 x5 x6 x7 x8 x9 x10 ⟨xa, xt, xm, xd⟩).mean ∗ owns (c : Thread nD τ) arg18 fullShare (stepC i h3 h4 x0 x1 x2 x3 x4 x5 x6 x7 x8 x9 x10 ⟨xa, xt, xm, xd⟩).dga) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_dx_eq_skeleton]; unfold cc0_dx_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%f15, %hf15, H15⟩, ⟨%f16, %hf16, H16⟩, Hk⟩
  subst hf0 hf1 hf2 hf3 hf4 hf5 hf6 hf7 hf8 hf9 hf10 hf13 hf14 hf15 hf16
  sl_exec (disch := first | sl_exact h1 | sl_exact h2 | sl_exact h3 | sl_exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_full _ _ _ _ _).trans ?_
    unfold outC
    show k0_pay10 _ _ _ _ _ _ _ = k0_pay10 _ _ _ _ _ _ _
    congr 1
    · first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl
    · first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl
    · first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl
    · first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl
    · first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl
    · refine (View.readAt_writes_full _ _ _ _ _ _).trans ?_
      unfold stepC totalC
      dsimp only
      show k0_pay8 _ (k0_pay22 _ _ _ _ _ _) _ = k0_pay8 _ (k0_pay22 _ _ _ _ _ _) _
      congr 1
      · congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
      · first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl
  isplitl [H12]
  · iexists _; isplitr
    swap; · iexact H12
    ipureintro
    refine (View.read_writes_full _ _ _ _ _).trans ?_
    unfold dgC
    show k0_pay9 _ = k0_pay9 _
    congr 1
    refine (View.readAt_full _ _ _).trans ?_
    refine (View.read_writes_cons_put _ _ _ _ _ rfl).trans ?_
    unfold stepC
    dsimp only
    congr 1
    congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
  isplitl [H13]
  · iexists _; isplitr
    swap; · iexact H13
    ipureintro
    rfl
  isplitl [H14]
  · iexists _; isplitr
    swap; · iexact H14
    ipureintro
    refine (View.read_writes_full _ _ _ _ _).trans ?_
    unfold stepC totalC
    dsimp only
    show k0_pay7 (k0_pay22 _ _ _ _ _ _) _ _ = k0_pay7 (k0_pay22 _ _ _ _ _ _) _ _
    congr 1
    · congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
  isplitl [H15]
  · iexists _; isplitr
    swap; · iexact H15
    ipureintro
    refine (View.read_writes_full _ _ _ _ _).trans ?_
    unfold stepC totalC
    dsimp only
    show k0_pay8 _ (k0_pay22 _ _ _ _ _ _) _ = k0_pay8 _ (k0_pay22 _ _ _ _ _ _) _
    congr 1
    · congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
    · first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl
  iexists _; isplitr
  swap; · iexact H16
  ipureintro
  refine (View.read_writes_cons_put _ _ _ _ _ rfl).trans ?_
  unfold stepC
  dsimp only
  congr 1
  congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)

end Cert.Dx.Hand

end
-- ==== Proof.DxRun.lean ====
module

public import proofs.«01_k».proof.Proof.DxBody
public import Idealize.ShloMosaic.Lib.Pipeline.TableIdle
public import Idealize.ShloMosaic.Lib.Claim

/-! # The run of the kernel over its whole grid

The scratch before every point, as the steps of the points before it; the results' blocks after every point; and the
launch: every execution terminates and leaves the result arrays at these blocks. -/

@[expose] public section

set_option maxRecDepth 16384

noncomputable section

namespace Cert.Dx.Hand

open Cert.Dx Cert.Dx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which kind of point is which -/

theorem first_iff : ∀ t : Fin cfg0.N, k0_first (grid0.coords t) = 1#1 ↔ t.val = 0 := by decide +kernel
theorem cond2_iff : ∀ t : Fin cfg0.N, k0_cond2 (grid0.coords t) = 1#1 ↔ t.val < 384 := by decide +kernel
theorem cond3_iff : ∀ t : Fin cfg0.N, k0_cond3 (grid0.coords t) = 1#1 ↔ 384 ≤ t.val := by decide +kernel
theorem cond4_iff : ∀ t : Fin cfg0.N, k0_cond4 (grid0.coords t) = 1#1 ↔ t.val % 16 = 0 := by decide +kernel
theorem idle11 : ∀ t : Fin cfg0.N, cfg0.idle 11 (cfg0.grid.coords t) = false := by decide +kernel
theorem idle12 : ∀ t : Fin cfg0.N, cfg0.idle 12 (cfg0.grid.coords t) = !decide (t.val = 384) := by decide +kernel

theorem cond3_of (t : Fin cfg0.N) (h : ¬ k0_cond2 (grid0.coords t) = 1#1) : k0_cond3 (grid0.coords t) = 1#1 :=
  (cond3_iff t).2 (not_lt.1 fun h' => h ((cond2_iff t).2 h'))

theorem lt_N {t : ℕ} (h : t < cfg0.N) : t < 400 := lt_of_lt_of_eq h N_0
theorem N_eq : cfg0.N = 400 := N_0

/-! ## The scratch and the results' blocks -/

/-- The scratch after the point `t`, from the scratch before it. -/
def stepAt (c : Dev nD) (t : Fin cfg0.N) (s : St F) : St F :=
  if h2 : k0_cond2 (grid0.coords t) = 1#1 then
    stepA (grid0.coords t) h2 (iblk m c 0 t) (iblk m c 1 t) (iblk m c 2 t) (iblk m c 3 t) (iblk m c 4 t) (iblk m c 5 t) (iblk m c 6 t) (iblk m c 7 t) (iblk m c 8 t) (iblk m c 9 t) (iblk m c 10 t) s
  else if h4 : k0_cond4 (grid0.coords t) = 1#1 then
    stepC (grid0.coords t) (cond3_of t h2) h4 (iblk m c 0 t) (iblk m c 1 t) (iblk m c 2 t) (iblk m c 3 t) (iblk m c 4 t) (iblk m c 5 t) (iblk m c 6 t) (iblk m c 7 t) (iblk m c 8 t) (iblk m c 9 t) (iblk m c 10 t) s
  else s

/-- The scratch before the point at position `n`: nothing is kept from before the first. -/
def stAt (c : Dev nD) : ℕ → St F
  | 0 => zeroSt
  | n + 1 => if h : n < cfg0.N then stepAt m c ⟨n, h⟩ (stAt c n) else stAt c n

theorem stAt_succ (c : Dev nD) (t : Fin cfg0.N) : stAt m c (t.val + 1) = stepAt m c t (stAt m c t.val) := by
  rw [stAt, dif_pos t.isLt]

/-- The first result's block after the point `t`. -/
def outAt (c : Dev nD) (t : Fin cfg0.N) : Vec F S512x512 .bf16 :=
  if h2 : k0_cond2 (grid0.coords t) = 1#1 then
    outA (grid0.coords t) h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (stAt m c t.val)
  else
    outC (grid0.coords t) (cond3_of t h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (stAt m c (t.val + 1))

/-! ## The pipeline's proof data -/

/-- What is held of the scratch before the point at position `n`. -/
def PhiS (c : Dev nD) : ℕ → sProp 𝕄
  | 0 => Pipeline.ΦA spec0 c
  | n + 1 => iprop((owns (c : Thread nD τ) (Memref.whole cc0_scratch0) fullShare (stAt m c (n + 1)).acc ∗ owns (c : Thread nD τ) (Memref.whole cc0_scratch1) fullShare (stAt m c (n + 1)).sum ∗ owns (c : Thread nD τ) (Memref.whole cc0_scratch2) fullShare (stAt m c (n + 1)).mean ∗ owns (c : Thread nD τ) (Memref.whole cc0_scratch3) fullShare (stAt m c (n + 1)).dga) ∗ ∃ r, prngReg c r)

theorem PhiS_pos (c : Dev nD) {n : ℕ} (h : n ≠ 0) :
    (PhiS m c n : sProp 𝕄) = iprop((owns (c : Thread nD τ) (Memref.whole cc0_scratch0) fullShare (stAt m c n).acc ∗ owns (c : Thread nD τ) (Memref.whole cc0_scratch1) fullShare (stAt m c n).sum ∗ owns (c : Thread nD τ) (Memref.whole cc0_scratch2) fullShare (stAt m c n).mean ∗ owns (c : Thread nD τ) (Memref.whole cc0_scratch3) fullShare (stAt m c n).dga) ∗ ∃ r, prngReg c r) := by
  cases n with
  | zero => exact absurd rfl h
  | succ n => rfl

/-- The arrays as the region finds them; each input's block left in place; the results' blocks as computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
    | ⟨12, _⟩ => dgC (stAt m c 385)
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outAt m c t := by dsimp only [dats]
theorem after0_12 (c : Dev nD) (t : Fin cfg0.N) : (dats m 0 c).after 12 t = dgC (stAt m c 385) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The second result's buffer holds nothing of use up to the point that stores it, and its final contents from then on. -/
theorem fresh12 : ∀ n, n ≤ cfg0.N → cfg0.fresh 12 n = (decide (n ≤ 384) || decide (n = 400)) :=
  Pipeline.Cfg.fresh_tab cfg0 12 (fun n => decide (n ≤ 384) || decide (n = 400)) rfl (by decide +kernel)

theorem before0_12 (c : Dev nD) (t : Fin cfg0.N) (h : 384 < t.val) (d) : (dats m 0 c).before 12 t d = dgC (stAt m c 385) := by
  have ht := lt_N t.isLt
  rw [(dats m 0 c).before_out_traj 12 rfl (fun _ _ => rfl) (fun t _ _ _ => by rw [after0_12, after0_12]) t.val t rfl d,
    fresh12 t.val t.isLt.le, if_neg (by simp; omega), after0_12]

theorem leaves11 (c : Dev nD) (t : Fin cfg0.N) : (dats m 0 c).leavesExact 11 t = owns (c : Thread nD τ) (st0_11 t) fullShare (outAt m c t) := by
  unfold Dat.leavesExact
  rw [idle11 t, after0_11]

theorem flush12 (t : Fin cfg0.N) (h : t.val ≠ 399) : (cfg0.win 12).flush t = false := by
  have ht := lt_N t.isLt
  rw [Bool.eq_false_iff]
  exact fun hf => h (by have := (flush0_12 t).1 hf; omega)

theorem leaves12_idle (c : Dev nD) (t : Fin cfg0.N) (h : t.val ≠ 384) (h' : t.val ≠ 399) :
    (dats m 0 c).leavesExact 12 t = iprop(∃ d, owns (c : Thread nD τ) (st0_12 t) fullShare ((dats m 0 c).before 12 t d)) :=
  (dats m 0 c).leavesExact_idle 12 t (by rw [idle12 t, decide_eq_false h]; rfl) (flush12 t h')

theorem leaves12_live (c : Dev nD) (t : Fin cfg0.N) (h : t.val = 384) :
    (dats m 0 c).leavesExact 12 t = owns (c : Thread nD τ) (st0_12 t) fullShare (dgC (stAt m c 385)) := by
  unfold Dat.leavesExact
  rw [idle12 t, decide_eq_true h, after0_12]; rfl

theorem leaves12_last (c : Dev nD) (t : Fin cfg0.N) (h : t.val = 399) :
    (dats m 0 c).leavesExact 12 t = owns (c : Thread nD τ) (st0_12 t) fullShare (dgC (stAt m c 385)) := by
  unfold Dat.leavesExact
  rw [idle12 t, (flush0_12 t).2 (by omega), after0_12]
  cases decide (t.val = 384) <;> rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (dats m 0 c).leavesExact 11 t ∗ (dats m 0 c).leavesExact 12 t)

theorem PhiA_eq (c : Dev nD) : (Pipeline.ΦA spec0 c : sProp 𝕄) =
    iprop(((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f)) ∗ ∃ r, prngReg c r) := by
  unfold Pipeline.ΦA
  rw [scopedRest0_eq]
  simp only [owns_whole]

theorem sound_body_first (c : Dev nD) (t : Fin cfg0.N) (h : t.val = 0) :
    bodyPre m c t ⊢ wp frame (wpE (defs₀ (F := F)) Variants.none c none) Set.univ (bodyAt0 t) (fun _ => bodyPost m c t) := by
  have ht := lt_N t.isLt
  have h1 := (first_iff t).2 h
  have h2 := (cond2_iff t).2 (by omega)
  have h3 : ¬ k0_cond3 (grid0.coords t) = 1#1 := fun h' => by have := (cond3_iff t).1 h'; omega
  have h0 : stAt m c t.val = zeroSt := by rw [h]; rfl
  have hst : stAt m c (t.val + 1) = stepA (grid0.coords t) h2 (iblk m c 0 t) (iblk m c 1 t) (iblk m c 2 t) (iblk m c 3 t) (iblk m c 4 t) (iblk m c 5 t) (iblk m c 6 t) (iblk m c 7 t) (iblk m c 8 t) (iblk m c 9 t) (iblk m c 10 t) zeroSt := by
    rw [stAt_succ]; unfold stepAt; rw [dif_pos h2, h0]
  have hout : outAt m c t = outA (grid0.coords t) h2 (iblk m c 0 t) (iblk m c 1 t) (iblk m c 2 t) (iblk m c 3 t) (iblk m c 4 t) (iblk m c 5 t) (iblk m c 6 t) (iblk m c 7 t) (iblk m c 8 t) (iblk m c 9 t) (iblk m c 10 t) zeroSt := by
    unfold outAt; rw [dif_pos h2, h0]
  unfold bodyPre bodyPost bodyAt0
  rw [show (dats m 0 c).Φ t.castSucc = PhiS m c t.val from rfl, show (dats m 0 c).Φ t.succ = PhiS m c (t.val + 1) from rfl,
    show (PhiS m c t.val : sProp 𝕄) = Pipeline.ΦA spec0 c by rw [h]; rfl, PhiA_eq, PhiS_pos m c (Nat.succ_ne_zero t.val), show (dats m 0 c).owesAt () t.succ = (dats m 0 c).owesAt () t.castSucc from rfl,
    leaves11, leaves12_idle m c t (by omega) (by omega), after0_0, after0_1, after0_2, after0_3, after0_4, after0_5, after0_6, after0_7, after0_8, after0_9, after0_10, hout, hst]
  simp only [before0_0, before0_1, before0_2, before0_3, before0_4, before0_5, before0_6, before0_7, before0_8, before0_9, before0_10]
  iintro ⟨⟨⟨Ha, Ht, Hm, Hd⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_first c Set.univ (grid0.coords t) h1 h2 h3 _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [Ha]; · iexact Ha
  isplitl [Ht]; · iexact Ht
  isplitl [Hm]; · iexact Hm
  isplitl [Hd]; · iexact Hd
  iintro ⟨H0, H1, H2, H3, H4, H5, H6, H7, H8, H9, H10, H11, H12, Ha, Ht, Hm, Hd⟩
  isplitl [Ha Ht Hm Hd HP]
  · isplitl [Ha Ht Hm Hd]
    · isplitl [Ha]; · iexact Ha
      isplitl [Ht]; · iexact Ht
      isplitl [Hm]; · iexact Hm
      iexact Hd
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _; iexact H12

theorem sound_body_step (c : Dev nD) (t : Fin cfg0.N) (h : t.val ≠ 0) (h' : t.val < 384) :
    bodyPre m c t ⊢ wp frame (wpE (defs₀ (F := F)) Variants.none c none) Set.univ (bodyAt0 t) (fun _ => bodyPost m c t) := by
  have ht := lt_N t.isLt
  have h1 : ¬ k0_first (grid0.coords t) = 1#1 := fun h'' => h ((first_iff t).1 h'')
  have h2 := (cond2_iff t).2 h'
  have h3 : ¬ k0_cond3 (grid0.coords t) = 1#1 := fun h' => by have := (cond3_iff t).1 h'; omega
  have hst : stAt m c (t.val + 1) = stepA (grid0.coords t) h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (stAt m c t.val) := by
    rw [stAt_succ]; unfold stepAt; rw [dif_pos h2]
  have hout : outAt m c t = outA (grid0.coords t) h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (stAt m c t.val) := by
    unfold outAt; rw [dif_pos h2]
  unfold bodyPre bodyPost bodyAt0
  rw [show (dats m 0 c).Φ t.castSucc = PhiS m c t.val from rfl, show (dats m 0 c).Φ t.succ = PhiS m c (t.val + 1) from rfl,
    PhiS_pos m c h, PhiS_pos m c (Nat.succ_ne_zero t.val), show (dats m 0 c).owesAt () t.succ = (dats m 0 c).owesAt () t.castSucc from rfl,
    leaves11, leaves12_idle m c t (by omega) (by omega), after0_0, after0_1, after0_2, after0_3, after0_4, after0_5, after0_6, after0_7, after0_8, after0_9, after0_10, hout, hst]
  simp only [before0_0, before0_1, before0_2, before0_3, before0_4, before0_5, before0_6, before0_7, before0_8, before0_9, before0_10]
  iintro ⟨⟨⟨Ha, Ht, Hm, Hd⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_step c Set.univ (grid0.coords t) h1 h2 h3 _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _ (stAt m c t.val).acc (stAt m c t.val).sum (stAt m c t.val).mean (stAt m c t.val).dga _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [Ha]; · iexact Ha
  isplitl [Ht]; · iexact Ht
  isplitl [Hm]; · iexact Hm
  isplitl [Hd]; · iexact Hd
  iintro ⟨H0, H1, H2, H3, H4, H5, H6, H7, H8, H9, H10, H11, H12, Ha, Ht, Hm, Hd⟩
  isplitl [Ha Ht Hm Hd HP]
  · isplitl [Ha Ht Hm Hd]
    · isplitl [Ha]; · iexact Ha
      isplitl [Ht]; · iexact Ht
      isplitl [Hm]; · iexact Hm
      iexact Hd
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _; iexact H12

theorem sound_body_reduce (c : Dev nD) (t : Fin cfg0.N) (h : t.val = 384) :
    bodyPre m c t ⊢ wp frame (wpE (defs₀ (F := F)) Variants.none c none) Set.univ (bodyAt0 t) (fun _ => bodyPost m c t) := by
  have ht := lt_N t.isLt
  have h1 : ¬ k0_first (grid0.coords t) = 1#1 := fun h'' => by have := (first_iff t).1 h''; omega
  have h2 : ¬ k0_cond2 (grid0.coords t) = 1#1 := fun h'' => by have := (cond2_iff t).1 h''; omega
  have h3 := (cond3_iff t).2 (by omega)
  have h4 := (cond4_iff t).2 (by omega)
  have h5 : stAt m c 385 = stAt m c (t.val + 1) := by rw [h]
  have hst : stAt m c (t.val + 1) = stepC (grid0.coords t) h3 h4 (iblk m c 0 t) (iblk m c 1 t) (iblk m c 2 t) (iblk m c 3 t) (iblk m c 4 t) (iblk m c 5 t) (iblk m c 6 t) (iblk m c 7 t) (iblk m c 8 t) (iblk m c 9 t) (iblk m c 10 t) (stAt m c t.val) := by
    rw [stAt_succ]; unfold stepAt; rw [dif_neg h2, dif_pos h4]
  have hout : outAt m c t = outC (grid0.coords t) h3 (iblk m c 0 t) (iblk m c 1 t) (iblk m c 2 t) (iblk m c 3 t) (iblk m c 4 t) (iblk m c 5 t) (iblk m c 6 t) (iblk m c 7 t) (iblk m c 8 t) (iblk m c 9 t) (iblk m c 10 t) (stAt m c (t.val + 1)) := by
    unfold outAt; rw [dif_neg h2]
  unfold bodyPre bodyPost bodyAt0
  rw [show (dats m 0 c).Φ t.castSucc = PhiS m c t.val from rfl, show (dats m 0 c).Φ t.succ = PhiS m c (t.val + 1) from rfl,
    PhiS_pos m c (by omega : t.val ≠ 0), PhiS_pos m c (Nat.succ_ne_zero t.val), show (dats m 0 c).owesAt () t.succ = (dats m 0 c).owesAt () t.castSucc from rfl,
    leaves11, leaves12_live m c t h, h5, after0_0, after0_1, after0_2, after0_3, after0_4, after0_5, after0_6, after0_7, after0_8, after0_9, after0_10, hout, hst]
  simp only [before0_0, before0_1, before0_2, before0_3, before0_4, before0_5, before0_6, before0_7, before0_8, before0_9, before0_10]
  iintro ⟨⟨⟨Ha, Ht, Hm, Hd⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_reduce c Set.univ (grid0.coords t) h1 h2 h3 h4 _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (stAt m c t.val).acc (stAt m c t.val).sum (stAt m c t.val).mean (stAt m c t.val).dga _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [Ha]; · iexact Ha
  isplitl [Ht]; · iexact Ht
  isplitl [Hm]; · iexact Hm
  isplitl [Hd]; · iexact Hd
  iintro ⟨H0, H1, H2, H3, H4, H5, H6, H7, H8, H9, H10, H11, H12, Ha, Ht, Hm, Hd⟩
  isplitl [Ha Ht Hm Hd HP]
  · isplitl [Ha Ht Hm Hd]
    · isplitl [Ha]; · iexact Ha
      isplitl [Ht]; · iexact Ht
      isplitl [Hm]; · iexact Hm
      iexact Hd
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem sound_body_finish (c : Dev nD) (t : Fin cfg0.N) (h : 384 < t.val) (h' : t.val ≠ 399) :
    bodyPre m c t ⊢ wp frame (wpE (defs₀ (F := F)) Variants.none c none) Set.univ (bodyAt0 t) (fun _ => bodyPost m c t) := by
  have ht := lt_N t.isLt
  have h1 : ¬ k0_first (grid0.coords t) = 1#1 := fun h'' => by have := (first_iff t).1 h''; omega
  have h2 : ¬ k0_cond2 (grid0.coords t) = 1#1 := fun h'' => by have := (cond2_iff t).1 h''; omega
  have h3 := (cond3_iff t).2 (by omega)
  have h4 : ¬ k0_cond4 (grid0.coords t) = 1#1 := fun h'' => by have := (cond4_iff t).1 h''; omega
  have hst : stAt m c (t.val + 1) = stAt m c t.val := by
    rw [stAt_succ]; unfold stepAt; rw [dif_neg h2, dif_neg h4]
  have hout : outAt m c t = outC (grid0.coords t) h3 (iblk m c 0 t) (iblk m c 1 t) (iblk m c 2 t) (iblk m c 3 t) (iblk m c 4 t) (iblk m c 5 t) (iblk m c 6 t) (iblk m c 7 t) (iblk m c 8 t) (iblk m c 9 t) (iblk m c 10 t) (stAt m c t.val) := by
    unfold outAt; rw [dif_neg h2, hst]
  unfold bodyPre bodyPost bodyAt0
  rw [show (dats m 0 c).Φ t.castSucc = PhiS m c t.val from rfl, show (dats m 0 c).Φ t.succ = PhiS m c (t.val + 1) from rfl,
    PhiS_pos m c (by omega : t.val ≠ 0), PhiS_pos m c (Nat.succ_ne_zero t.val), show (dats m 0 c).owesAt () t.succ = (dats m 0 c).owesAt () t.castSucc from rfl,
    leaves11, leaves12_idle m c t (by omega) (by omega), after0_0, after0_1, after0_2, after0_3, after0_4, after0_5, after0_6, after0_7, after0_8, after0_9, after0_10, hout, hst]
  simp only [before0_0, before0_1, before0_2, before0_3, before0_4, before0_5, before0_6, before0_7, before0_8, before0_9, before0_10]
  iintro ⟨⟨⟨Ha, Ht, Hm, Hd⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_finish c Set.univ (grid0.coords t) h1 h2 h3 h4 _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _ (stAt m c t.val).acc (stAt m c t.val).sum (stAt m c t.val).mean (stAt m c t.val).dga _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [Ha]; · iexact Ha
  isplitl [Ht]; · iexact Ht
  isplitl [Hm]; · iexact Hm
  isplitl [Hd]; · iexact Hd
  iintro ⟨H0, H1, H2, H3, H4, H5, H6, H7, H8, H9, H10, H11, H12, Ha, Ht, Hm, Hd⟩
  isplitl [Ha Ht Hm Hd HP]
  · isplitl [Ha Ht Hm Hd]
    · isplitl [Ha]; · iexact Ha
      isplitl [Ht]; · iexact Ht
      isplitl [Hm]; · iexact Hm
      iexact Hd
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _; iexact H12

theorem sound_body_last (c : Dev nD) (t : Fin cfg0.N) (h : t.val = 399) :
    bodyPre m c t ⊢ wp frame (wpE (defs₀ (F := F)) Variants.none c none) Set.univ (bodyAt0 t) (fun _ => bodyPost m c t) := by
  have ht := lt_N t.isLt
  have h1 : ¬ k0_first (grid0.coords t) = 1#1 := fun h'' => by have := (first_iff t).1 h''; omega
  have h2 : ¬ k0_cond2 (grid0.coords t) = 1#1 := fun h'' => by have := (cond2_iff t).1 h''; omega
  have h3 := (cond3_iff t).2 (by omega)
  have h4 : ¬ k0_cond4 (grid0.coords t) = 1#1 := fun h'' => by have := (cond4_iff t).1 h''; omega
  have hst : stAt m c (t.val + 1) = stAt m c t.val := by
    rw [stAt_succ]; unfold stepAt; rw [dif_neg h2, dif_neg h4]
  have hout : outAt m c t = outC (grid0.coords t) h3 (iblk m c 0 t) (iblk m c 1 t) (iblk m c 2 t) (iblk m c 3 t) (iblk m c 4 t) (iblk m c 5 t) (iblk m c 6 t) (iblk m c 7 t) (iblk m c 8 t) (iblk m c 9 t) (iblk m c 10 t) (stAt m c t.val) := by
    unfold outAt; rw [dif_neg h2, hst]
  unfold bodyPre bodyPost bodyAt0
  rw [show (dats m 0 c).Φ t.castSucc = PhiS m c t.val from rfl, show (dats m 0 c).Φ t.succ = PhiS m c (t.val + 1) from rfl,
    PhiS_pos m c (by omega : t.val ≠ 0), PhiS_pos m c (Nat.succ_ne_zero t.val), show (dats m 0 c).owesAt () t.succ = (dats m 0 c).owesAt () t.castSucc from rfl,
    leaves11, leaves12_last m c t (by omega), after0_0, after0_1, after0_2, after0_3, after0_4, after0_5, after0_6, after0_7, after0_8, after0_9, after0_10, hout, hst]
  simp only [before0_0, before0_1, before0_2, before0_3, before0_4, before0_5, before0_6, before0_7, before0_8, before0_9, before0_10, before0_12 m c t (by omega)]
  iintro ⟨⟨⟨Ha, Ht, Hm, Hd⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_finish c Set.univ (grid0.coords t) h1 h2 h3 h4 _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _ (stAt m c t.val).acc (stAt m c t.val).sum (stAt m c t.val).mean (stAt m c t.val).dga _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [Ha]; · iexact Ha
  isplitl [Ht]; · iexact Ht
  isplitl [Hm]; · iexact Hm
  isplitl [Hd]; · iexact Hd
  iintro ⟨H0, H1, H2, H3, H4, H5, H6, H7, H8, H9, H10, H11, H12, Ha, Ht, Hm, Hd⟩
  isplitl [Ha Ht Hm Hd HP]
  · isplitl [Ha Ht Hm Hd]
    · isplitl [Ha]; · iexact Ha
      isplitl [Ht]; · iexact Ht
      isplitl [Hm]; · iexact Hm
      iexact Hd
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  have ht := lt_N t.isLt
  by_cases h : t.val = 0
  · exact sound_body_first m c t h
  by_cases h' : t.val < 384
  · exact sound_body_step m c t h h'
  by_cases h'' : t.val = 384
  · exact sound_body_reduce m c t h''
  by_cases h3 : t.val = 399
  · exact sound_body_last m c t h3
  · exact sound_body_finish m c t (by omega) h3

/-- The body table's row at point `t`'s slots is the body as the frame spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N from rfl, PhiS_pos m c (by rw [N_eq]; decide), PhiA_eq]
  iintro ⟨⟨Ha, Ht, Hm, Hd⟩, HP⟩
  isplitl [Ha Ht Hm Hd]
  · isplitl [Ha]; · iexists _; iexact Ha
    isplitl [Ht]; · iexists _; iexact Ht
    isplitl [Hm]; · iexists _; iexact Hm
    iexists _; iexact Hd
  iexact HP

set_option backward.isDefEq.respectTransparency.types false in
set_option maxHeartbeats 800000 in
/-- The launch: every execution terminates with the arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  θ_run_and (unchanged m ρ) ((θ_run defs _ _).mono (fun _ h => h.2) (run_main_quiescent m ρ))

end Cert.Dx.Hand

end
-- ==== Proof.DxIdealBody.lean ====
module

public import proofs.«01_k».proof.Proof.Gen.DxIdeal.Frame
public import proofs.«01_k».proof.Proof.Gen.DxIdeal.Skeleton
public import Idealize.ShloMosaic.Lib.VecWindow

/-! # One grid point of the kernel

The kernel carries four scratch buffers from point to point. Here each of its four kinds of point is run once, from any
contents of the scratch: what the body leaves in the scratch and in its results is one step of the plain functions
below. -/

@[expose] public section

set_option maxRecDepth 16384

noncomputable section

namespace Cert.DxIdeal.Hand

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the scratch: the product's blocks of one band of rows, the running row sums, the row means, and the
    running sums over rows. -/
structure St (F : FTy → Type) where
  acc : Vec F S16x512x512 .f32
  sum : Vec F S512x128 .f32
  mean : Vec F S512x1 .f32
  dga : Vec F S16x8x512 .f32

/-- The scratch the first point starts from. -/
def zeroSt : St F := ⟨k0_pay1, k0_pay2, k0_pay3, k0_pay4⟩

/-- Whether the point is the first, as the body computes it. -/
def k0_first (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The running row sums with the previous block's part added. -/
def totalA (i : grid0.Coords) (h : k0_cond2 i = 1#1) (x3 : Vec F S512x512 .fp8e4m3) (x4 x5 : Vec F S512x1 .f32) (x6 : Vec F S1x512 .f32) (s : St F) : FVec F S512x128 .f32 :=
  k0_pay13 (View.ld s.acc (Rect.unit (s := S16x512x512) (k0_off1 i) S1x512x512.size (k0_off1_inb i h))) x3 x4 x5 x6 s.sum

/-- One step of the scratch: the previous block enters the sums, the point's block of the product is stored. -/
def stepA (i : grid0.Coords) (h : k0_cond2 i = 1#1) (x0 : Vec F S512x10240 .bf16) (x1 : Vec F S512x10240 .fp8e4m3) (x2 : Vec F S1x10240 .f32)
    (x3 : Vec F S512x512 .fp8e4m3) (x4 x5 : Vec F S512x1 .f32) (x6 : Vec F S1x512 .f32) (_x7 : Vec F S512x512 .fp8e4m3) (_x8 _x9 : Vec F S512x1 .f32) (_x10 : Vec F S1x512 .f32) (s : St F) : St F where
  acc := VecWindow.put s.acc (k0_off3 i) S1x512x512.size (k0_pay6 x1 x2 x0)
  sum := k0_pay15 (totalA i h x3 x4 x5 x6 s) (Scalar.cmpi .eq (BitVec.ofNat 32 (i 1).val) 0#32) (k0_pay14 (F := F))
  mean := k0_pay16 (BitVec.ofNat 32 (i 1).val) (totalA i h x3 x4 x5 x6 s) s.mean
  dga := VecWindow.put s.dga (k0_off2 i) S1x8x512.size
    (k0_pay12 (View.ld s.acc (Rect.unit (s := S16x512x512) (k0_off1 i) S1x512x512.size (k0_off1_inb i h))) x3 x4 x5
      (View.ld s.dga (Rect.unit (s := S16x8x512) (k0_off2 i) S1x8x512.size (k0_off2_inb i h))))

/-- The block of the result such a point leaves. -/
def outA (i : grid0.Coords) (h : k0_cond2 i = 1#1) (x0 : Vec F S512x10240 .bf16) (x1 : Vec F S512x10240 .fp8e4m3) (x2 : Vec F S1x10240 .f32)
    (x3 : Vec F S512x512 .fp8e4m3) (x4 x5 : Vec F S512x1 .f32) (x6 : Vec F S1x512 .f32) (x7 : Vec F S512x512 .fp8e4m3) (x8 x9 : Vec F S512x1 .f32) (x10 : Vec F S1x512 .f32) (s : St F) : Vec F S512x512 .bf16 :=
  k0_pay5 (k0_pay17 x7 x8 x9) (k0_pay18 (View.ld s.acc (Rect.unit (s := S16x512x512) (k0_off3 i) S1x512x512.size (k0_off3_inb i h))) x10) (k0_pay19 x9)
    (stepA i h x0 x1 x2 x3 x4 x5 x6 x7 x8 x9 x10 s).mean

/-- The running row sums with the last block's part added. -/
def totalC (i : grid0.Coords) (h : k0_cond3 i = 1#1) (h4 : k0_cond4 i = 1#1) (x3 : Vec F S512x512 .fp8e4m3) (x4 x5 : Vec F S512x1 .f32) (x6 : Vec F S1x512 .f32) (s : St F) : FVec F S512x128 .f32 :=
  k0_pay22 (View.ld s.acc (Rect.unit (s := S16x512x512) (k0_off4 i) S1x512x512.size (k0_off4_inb i h h4))) x3 x4 x5 x6 s.sum

/-- The last step of the sums. -/
def stepC (i : grid0.Coords) (h : k0_cond3 i = 1#1) (h4 : k0_cond4 i = 1#1) (_x0 : Vec F S512x10240 .bf16) (_x1 : Vec F S512x10240 .fp8e4m3) (_x2 : Vec F S1x10240 .f32)
    (x3 : Vec F S512x512 .fp8e4m3) (x4 x5 : Vec F S512x1 .f32) (x6 : Vec F S1x512 .f32) (_x7 : Vec F S512x512 .fp8e4m3) (_x8 _x9 : Vec F S512x1 .f32) (_x10 : Vec F S1x512 .f32) (s : St F) : St F where
  acc := s.acc
  sum := k0_pay7 (totalC i h h4 x3 x4 x5 x6 s) (Scalar.cmpi .eq (BitVec.ofNat 32 (i 1).val) 0#32) (k0_pay23 (F := F))
  mean := k0_pay8 i (totalC i h h4 x3 x4 x5 x6 s) s.mean
  dga := VecWindow.put s.dga (k0_off5 i) S1x8x512.size
    (k0_pay21 (View.ld s.acc (Rect.unit (s := S16x512x512) (k0_off4 i) S1x512x512.size (k0_off4_inb i h h4))) x3 x4 x5
      (View.ld s.dga (Rect.unit (s := S16x8x512) (k0_off5 i) S1x8x512.size (k0_off5_inb i h h4))))

/-- The sums over rows as given out. -/
def dgC (s : St F) : Vec F S16x1x512 .f32 := k0_pay9 s.dga

/-- The block of the result a point of the last row leaves. -/
def outC (i : grid0.Coords) (h : k0_cond3 i = 1#1) (_x0 : Vec F S512x10240 .bf16) (_x1 : Vec F S512x10240 .fp8e4m3) (_x2 : Vec F S1x10240 .f32)
    (_x3 : Vec F S512x512 .fp8e4m3) (_x4 _x5 : Vec F S512x1 .f32) (_x6 : Vec F S1x512 .f32) (x7 : Vec F S512x512 .fp8e4m3) (x8 x9 : Vec F S512x1 .f32) (x10 : Vec F S1x512 .f32) (s : St F) : Vec F S512x512 .bf16 :=
  k0_pay10 x7 x8 x9 (View.ld s.acc (Rect.unit (s := S16x512x512) (k0_off6 i) S1x512x512.size (k0_off6_inb i h))) x10 x9 s.mean

set_option maxHeartbeats 8000000 in
/-- The body at a point that is not the first, before the last row of points: one step of every scratch. -/
theorem sound_step (c : Dev nD) (E : Set ℕ) (i : grid0.Coords) (h1 : ¬ (k0_first i = 1#1)) (h2 : k0_cond2 i = 1#1) (h3 : ¬ k0_cond3 i = 1#1) (arg2 : Memref sig .tc .vmem S512x10240 .bf16) (harg2 : arg2.IsWhole) (arg3 : Memref sig .tc .vmem S512x10240 .fp8e4m3) (harg3 : arg3.IsWhole) (arg4 : Memref sig .tc .vmem S1x10240 .f32) (harg4 : arg4.IsWhole) (arg5 : Memref sig .tc .vmem S512x512 .fp8e4m3) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512 .f32) (harg8 : arg8.IsWhole) (arg9 : Memref sig .tc .vmem S512x512 .fp8e4m3) (harg9 : arg9.IsWhole) (arg10 : Memref sig .tc .vmem S512x1 .f32) (harg10 : arg10.IsWhole) (arg11 : Memref sig .tc .vmem S512x1 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S16x1x512 .f32) (harg14 : arg14.IsWhole) (arg15 : Memref sig .tc .vmem S16x512x512 .f32) (harg15 : arg15.IsWhole) (arg16 : Memref sig .tc .vmem S512x128 .f32) (harg16 : arg16.IsWhole) (arg17 : Memref sig .tc .vmem S512x1 .f32) (harg17 : arg17.IsWhole) (arg18 : Memref sig .tc .vmem S16x8x512 .f32) (harg18 : arg18.IsWhole)
    (x0 : Vec F S512x10240 .bf16) (x1 : Vec F S512x10240 .fp8e4m3) (x2 : Vec F S1x10240 .f32) (x3 : Vec F S512x512 .fp8e4m3) (x4 : Vec F S512x1 .f32) (x5 : Vec F S512x1 .f32) (x6 : Vec F S1x512 .f32) (x7 : Vec F S512x512 .fp8e4m3) (x8 : Vec F S512x1 .f32) (x9 : Vec F S512x1 .f32) (x10 : Vec F S1x512 .f32) (x12 : Vec F S16x1x512 .f32) (xa : Vec F S16x512x512 .f32) (xt : Vec F S512x128 .f32) (xm : Vec F S512x1 .f32) (xd : Vec F S16x8x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare x12 ∗ owns (c : Thread nD τ) arg15 fullShare xa ∗ owns (c : Thread nD τ) arg16 fullShare xt ∗ owns (c : Thread nD τ) arg17 fullShare xm ∗ owns (c : Thread nD τ) arg18 fullShare xd
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (outA i h2 x0 x1 x2 x3 x4 x5 x6 x7 x8 x9 x10 ⟨xa, xt, xm, xd⟩) ∗ owns (c : Thread nD τ) arg14 fullShare x12 ∗ owns (c : Thread nD τ) arg15 fullShare (stepA i h2 x0 x1 x2 x3 x4 x5 x6 x7 x8 x9 x10 ⟨xa, xt, xm, xd⟩).acc ∗ owns (c : Thread nD τ) arg16 fullShare (stepA i h2 x0 x1 x2 x3 x4 x5 x6 x7 x8 x9 x10 ⟨xa, xt, xm, xd⟩).sum ∗ owns (c : Thread nD τ) arg17 fullShare (stepA i h2 x0 x1 x2 x3 x4 x5 x6 x7 x8 x9 x10 ⟨xa, xt, xm, xd⟩).mean ∗ owns (c : Thread nD τ) arg18 fullShare (stepA i h2 x0 x1 x2 x3 x4 x5 x6 x7 x8 x9 x10 ⟨xa, xt, xm, xd⟩).dga) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_dx_eq_skeleton]; unfold cc0_dx_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, ⟨%f16, %hf16, H16⟩, Hk⟩
  subst hf0 hf1 hf2 hf3 hf4 hf5 hf6 hf7 hf8 hf9 hf10 hf12 hf13 hf14 hf15 hf16
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_full _ _ _ _ _).trans ?_
    unfold outA
    show k0_pay5 (k0_pay17 _ _ _) (k0_pay18 _ _) (k0_pay19 _) _ = k0_pay5 (k0_pay17 _ _ _) (k0_pay18 _ _) (k0_pay19 _) _
    congr 1
    · congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
    · congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
    · congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
    · refine (View.readAt_writes_full _ _ _ _ _ _).trans ?_
      unfold stepA totalA
      dsimp only
      show k0_pay16 _ (k0_pay13 _ _ _ _ _ _) _ = k0_pay16 _ (k0_pay13 _ _ _ _ _ _) _
      congr 1
      · congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
      · first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl
  isplitl [H12]
  · iexists _; isplitr
    swap; · iexact H12
    ipureintro
    rfl
  isplitl [H13]
  · iexists _; isplitr
    swap; · iexact H13
    ipureintro
    refine (View.read_writes_cons_put _ _ _ _ _ rfl).trans ?_
    unfold stepA
    dsimp only
    congr 1
    congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
  isplitl [H14]
  · iexists _; isplitr
    swap; · iexact H14
    ipureintro
    refine (View.read_writes_full _ _ _ _ _).trans ?_
    unfold stepA totalA
    dsimp only
    show k0_pay15 (k0_pay13 _ _ _ _ _ _) _ _ = k0_pay15 (k0_pay13 _ _ _ _ _ _) _ _
    congr 1
    · congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
  isplitl [H15]
  · iexists _; isplitr
    swap; · iexact H15
    ipureintro
    refine (View.read_writes_full _ _ _ _ _).trans ?_
    unfold stepA totalA
    dsimp only
    show k0_pay16 _ (k0_pay13 _ _ _ _ _ _) _ = k0_pay16 _ (k0_pay13 _ _ _ _ _ _) _
    congr 1
    · congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
    · first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl
  iexists _; isplitr
  swap; · iexact H16
  ipureintro
  refine (View.read_writes_cons_put _ _ _ _ _ rfl).trans ?_
  unfold stepA
  dsimp only
  congr 1
  congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)

set_option maxHeartbeats 8000000 in
/-- The body at a later point of the last row: one block of the result is finished. -/
theorem sound_finish (c : Dev nD) (E : Set ℕ) (i : grid0.Coords) (h1 : ¬ (k0_first i = 1#1)) (h2 : ¬ k0_cond2 i = 1#1) (h3 : k0_cond3 i = 1#1) (h4 : ¬ k0_cond4 i = 1#1) (arg2 : Memref sig .tc .vmem S512x10240 .bf16) (harg2 : arg2.IsWhole) (arg3 : Memref sig .tc .vmem S512x10240 .fp8e4m3) (harg3 : arg3.IsWhole) (arg4 : Memref sig .tc .vmem S1x10240 .f32) (harg4 : arg4.IsWhole) (arg5 : Memref sig .tc .vmem S512x512 .fp8e4m3) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512 .f32) (harg8 : arg8.IsWhole) (arg9 : Memref sig .tc .vmem S512x512 .fp8e4m3) (harg9 : arg9.IsWhole) (arg10 : Memref sig .tc .vmem S512x1 .f32) (harg10 : arg10.IsWhole) (arg11 : Memref sig .tc .vmem S512x1 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S16x1x512 .f32) (harg14 : arg14.IsWhole) (arg15 : Memref sig .tc .vmem S16x512x512 .f32) (harg15 : arg15.IsWhole) (arg16 : Memref sig .tc .vmem S512x128 .f32) (harg16 : arg16.IsWhole) (arg17 : Memref sig .tc .vmem S512x1 .f32) (harg17 : arg17.IsWhole) (arg18 : Memref sig .tc .vmem S16x8x512 .f32) (harg18 : arg18.IsWhole)
    (x0 : Vec F S512x10240 .bf16) (x1 : Vec F S512x10240 .fp8e4m3) (x2 : Vec F S1x10240 .f32) (x3 : Vec F S512x512 .fp8e4m3) (x4 : Vec F S512x1 .f32) (x5 : Vec F S512x1 .f32) (x6 : Vec F S1x512 .f32) (x7 : Vec F S512x512 .fp8e4m3) (x8 : Vec F S512x1 .f32) (x9 : Vec F S512x1 .f32) (x10 : Vec F S1x512 .f32) (x12 : Vec F S16x1x512 .f32) (xa : Vec F S16x512x512 .f32) (xt : Vec F S512x128 .f32) (xm : Vec F S512x1 .f32) (xd : Vec F S16x8x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare x12 ∗ owns (c : Thread nD τ) arg15 fullShare xa ∗ owns (c : Thread nD τ) arg16 fullShare xt ∗ owns (c : Thread nD τ) arg17 fullShare xm ∗ owns (c : Thread nD τ) arg18 fullShare xd
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (outC i h3 x0 x1 x2 x3 x4 x5 x6 x7 x8 x9 x10 ⟨xa, xt, xm, xd⟩) ∗ owns (c : Thread nD τ) arg14 fullShare x12 ∗ owns (c : Thread nD τ) arg15 fullShare (⟨xa, xt, xm, xd⟩ : St F).acc ∗ owns (c : Thread nD τ) arg16 fullShare (⟨xa, xt, xm, xd⟩ : St F).sum ∗ owns (c : Thread nD τ) arg17 fullShare (⟨xa, xt, xm, xd⟩ : St F).mean ∗ owns (c : Thread nD τ) arg18 fullShare (⟨xa, xt, xm, xd⟩ : St F).dga) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_dx_eq_skeleton]; unfold cc0_dx_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, ⟨%f16, %hf16, H16⟩, Hk⟩
  subst hf0 hf1 hf2 hf3 hf4 hf5 hf6 hf7 hf8 hf9 hf10 hf12 hf13 hf14 hf15 hf16
  sl_exec (disch := first | sl_exact h1 | sl_exact h2 | sl_exact h3 | sl_exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_full _ _ _ _ _).trans ?_
    unfold outC
    dsimp only
    congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
  isplitl [H12]
  · iexists _; isplitr
    swap; · iexact H12
    ipureintro
    rfl
  isplitl [H13]
  · iexists _; isplitr
    swap; · iexact H13
    ipureintro
    rfl
  isplitl [H14]
  · iexists _; isplitr
    swap; · iexact H14
    ipureintro
    rfl
  isplitl [H15]
  · iexists _; isplitr
    swap; · iexact H15
    ipureintro
    rfl
  iexists _; isplitr
  swap; · iexact H16
  ipureintro
  rfl

/-- The closed form of the previous block's offsets. -/
theorem off1_closed (i : grid0.Coords) : k0_off1 i = ![((i 1).val + 15) % 16, 0, 0] := by
  unfold k0_off1
  generalize i 1 = x
  change Fin 16 at x
  revert x
  decide

/-- The closed form, as the run reads it. -/
local instance (i : grid0.Coords) : ClosedOff (k0_off1 i) := ⟨![((i 1).val + 15) % 16, 0, 0], off1_closed i⟩

/-- The closed form of the previous block's offsets. -/
theorem off2_closed (i : grid0.Coords) : k0_off2 i = ![((i 1).val + 15) % 16, 0, 0] := by
  unfold k0_off2
  generalize i 1 = x
  change Fin 16 at x
  revert x
  decide

/-- The closed form, as the run reads it. -/
local instance (i : grid0.Coords) : ClosedOff (k0_off2 i) := ⟨![((i 1).val + 15) % 16, 0, 0], off2_closed i⟩

/-- The closed form of the point's block's offsets. -/
theorem off3_closed (i : grid0.Coords) : k0_off3 i = ![(i 1).val, 0, 0] := by
  unfold k0_off3
  generalize i 1 = x
  change Fin 16 at x
  revert x
  decide

/-- The closed form, as the run reads it. -/
local instance (i : grid0.Coords) : ClosedOff (k0_off3 i) := ⟨![(i 1).val, 0, 0], off3_closed i⟩

/-- The closed form of the previous block's offsets. -/
theorem off4_closed (i : grid0.Coords) : k0_off4 i = ![((i 1).val + 15) % 16, 0, 0] := by
  unfold k0_off4
  generalize i 1 = x
  change Fin 16 at x
  revert x
  decide

/-- The closed form, as the run reads it. -/
local instance (i : grid0.Coords) : ClosedOff (k0_off4 i) := ⟨![((i 1).val + 15) % 16, 0, 0], off4_closed i⟩

/-- The closed form of the previous block's offsets. -/
theorem off5_closed (i : grid0.Coords) : k0_off5 i = ![((i 1).val + 15) % 16, 0, 0] := by
  unfold k0_off5
  generalize i 1 = x
  change Fin 16 at x
  revert x
  decide

/-- The closed form, as the run reads it. -/
local instance (i : grid0.Coords) : ClosedOff (k0_off5 i) := ⟨![((i 1).val + 15) % 16, 0, 0], off5_closed i⟩

/-- The closed form of the point's block's offsets. -/
theorem off6_closed (i : grid0.Coords) : k0_off6 i = ![(i 1).val, 0, 0] := by
  unfold k0_off6
  generalize i 1 = x
  change Fin 16 at x
  revert x
  decide

/-- The closed form, as the run reads it. -/
local instance (i : grid0.Coords) : ClosedOff (k0_off6 i) := ⟨![(i 1).val, 0, 0], off6_closed i⟩

set_option maxHeartbeats 8000000 in
/-- The body at the first point: the scratch is zeroed, then one step. -/
theorem sound_first (c : Dev nD) (E : Set ℕ) (i : grid0.Coords) (h1 : (k0_first i = 1#1)) (h2 : k0_cond2 i = 1#1) (h3 : ¬ k0_cond3 i = 1#1) (arg2 : Memref sig .tc .vmem S512x10240 .bf16) (harg2 : arg2.IsWhole) (arg3 : Memref sig .tc .vmem S512x10240 .fp8e4m3) (harg3 : arg3.IsWhole) (arg4 : Memref sig .tc .vmem S1x10240 .f32) (harg4 : arg4.IsWhole) (arg5 : Memref sig .tc .vmem S512x512 .fp8e4m3) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512 .f32) (harg8 : arg8.IsWhole) (arg9 : Memref sig .tc .vmem S512x512 .fp8e4m3) (harg9 : arg9.IsWhole) (arg10 : Memref sig .tc .vmem S512x1 .f32) (harg10 : arg10.IsWhole) (arg11 : Memref sig .tc .vmem S512x1 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S16x1x512 .f32) (harg14 : arg14.IsWhole) (arg15 : Memref sig .tc .vmem S16x512x512 .f32) (harg15 : arg15.IsWhole) (arg16 : Memref sig .tc .vmem S512x128 .f32) (harg16 : arg16.IsWhole) (arg17 : Memref sig .tc .vmem S512x1 .f32) (harg17 : arg17.IsWhole) (arg18 : Memref sig .tc .vmem S16x8x512 .f32) (harg18 : arg18.IsWhole)
    (x0 : Vec F S512x10240 .bf16) (x1 : Vec F S512x10240 .fp8e4m3) (x2 : Vec F S1x10240 .f32) (x3 : Vec F S512x512 .fp8e4m3) (x4 : Vec F S512x1 .f32) (x5 : Vec F S512x1 .f32) (x6 : Vec F S1x512 .f32) (x7 : Vec F S512x512 .fp8e4m3) (x8 : Vec F S512x1 .f32) (x9 : Vec F S512x1 .f32) (x10 : Vec F S1x512 .f32) (x12 : Vec F S16x1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (outA i h2 x0 x1 x2 x3 x4 x5 x6 x7 x8 x9 x10 zeroSt) ∗ owns (c : Thread nD τ) arg14 fullShare x12 ∗ owns (c : Thread nD τ) arg15 fullShare (stepA i h2 x0 x1 x2 x3 x4 x5 x6 x7 x8 x9 x10 zeroSt).acc ∗ owns (c : Thread nD τ) arg16 fullShare (stepA i h2 x0 x1 x2 x3 x4 x5 x6 x7 x8 x9 x10 zeroSt).sum ∗ owns (c : Thread nD τ) arg17 fullShare (stepA i h2 x0 x1 x2 x3 x4 x5 x6 x7 x8 x9 x10 zeroSt).mean ∗ owns (c : Thread nD τ) arg18 fullShare (stepA i h2 x0 x1 x2 x3 x4 x5 x6 x7 x8 x9 x10 zeroSt).dga) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_dx_eq_skeleton]; unfold cc0_dx_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, ⟨%d16, %f16, -, H16⟩, Hk⟩
  subst hf0 hf1 hf2 hf3 hf4 hf5 hf6 hf7 hf8 hf9 hf10 hf12
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_full _ _ _ _ _).trans ?_
    unfold outA
    show k0_pay5 (k0_pay17 _ _ _) (k0_pay18 _ _) (k0_pay19 _) _ = k0_pay5 (k0_pay17 _ _ _) (k0_pay18 _ _) (k0_pay19 _) _
    congr 1
    · congr 1
      · exact View.readAt_full _ _ _
      · exact View.readAt_full _ _ _
      · exact View.readAt_full _ _ _
    · congr 1
      · show View.ld (View.read (Elt F) _ _) _ = View.ld _ _
        exact congrArg (fun X => View.ld X (Rect.unit _ _ _)) (View.read_writes_full _ _ _ _ _)
      · exact View.readAt_full _ _ _
    · congr 1
      exact View.readAt_full _ _ _
    · refine (View.readAt_writes_full _ _ _ _ _ _).trans ?_
      unfold stepA totalA
      show k0_pay16 _ (k0_pay13 _ _ _ _ _ _) _ = k0_pay16 _ (k0_pay13 _ _ _ _ _ _) _
      congr 1
      · congr 1
        · show View.ld (View.read (Elt F) _ _) _ = View.ld _ _
          exact congrArg (fun X => View.ld X (Rect.unit _ _ _)) (View.read_writes_full _ _ _ _ _)
        · exact View.readAt_full _ _ _
        · exact View.readAt_full _ _ _
        · exact View.readAt_full _ _ _
        · exact View.readAt_full _ _ _
        · first | exact View.readCov_full _ _ _ _ _ | exact View.readAt_writes_full _ _ _ _ _ _
      · first | exact View.readCov_full _ _ _ _ _ | exact View.readAt_writes_full _ _ _ _ _ _
  isplitl [H12]
  · iexists _; isplitr
    swap; · iexact H12
    ipureintro
    rfl
  isplitl [H13]
  · iexists _; isplitr
    swap; · iexact H13
    ipureintro
    refine (View.read_writes_cons_put _ _ _ _ _ rfl).trans ?_
    unfold stepA
    show VecWindow.put _ _ _ _ = VecWindow.put k0_pay1 _ _ _
    congr 1
    · exact View.read_writes_full _ _ _ _ _
    · congr 1
      · exact View.readAt_full _ _ _
      · exact View.readAt_full _ _ _
      · exact View.readAt_full _ _ _
  isplitl [H14]
  · iexists _; isplitr
    swap; · iexact H14
    ipureintro
    refine (View.read_writes_full _ _ _ _ _).trans ?_
    unfold stepA totalA
    show k0_pay15 (k0_pay13 _ _ _ _ _ _) _ _ = k0_pay15 (k0_pay13 _ _ _ _ _ _) _ _
    congr 1
    congr 1
    · show View.ld (View.read (Elt F) _ _) _ = View.ld _ _
      exact congrArg (fun X => View.ld X (Rect.unit _ _ _)) (View.read_writes_full _ _ _ _ _)
    · exact View.readAt_full _ _ _
    · exact View.readAt_full _ _ _
    · exact View.readAt_full _ _ _
    · exact View.readAt_full _ _ _
    · first | exact View.readCov_full _ _ _ _ _ | exact View.readAt_writes_full _ _ _ _ _ _
  isplitl [H15]
  · iexists _; isplitr
    swap; · iexact H15
    ipureintro
    refine (View.read_writes_full _ _ _ _ _).trans ?_
    unfold stepA totalA
    show k0_pay16 _ (k0_pay13 _ _ _ _ _ _) _ = k0_pay16 _ (k0_pay13 _ _ _ _ _ _) _
    congr 1
    · congr 1
      · show View.ld (View.read (Elt F) _ _) _ = View.ld _ _
        exact congrArg (fun X => View.ld X (Rect.unit _ _ _)) (View.read_writes_full _ _ _ _ _)
      · exact View.readAt_full _ _ _
      · exact View.readAt_full _ _ _
      · exact View.readAt_full _ _ _
      · exact View.readAt_full _ _ _
      · first | exact View.readCov_full _ _ _ _ _ | exact View.readAt_writes_full _ _ _ _ _ _
    · first | exact View.readCov_full _ _ _ _ _ | exact View.readAt_writes_full _ _ _ _ _ _
  iexists _; isplitr
  swap; · iexact H16
  ipureintro
  refine (View.read_writes_cons_put _ _ _ _ _ rfl).trans ?_
  unfold stepA
  show VecWindow.put _ _ _ _ = VecWindow.put k0_pay4 _ _ _
  congr 1
  · exact View.read_writes_full _ _ _ _ _
  · congr 1
    · show View.ld (View.read (Elt F) _ _) _ = View.ld _ _
      exact congrArg (fun X => View.ld X (Rect.unit _ _ _)) (View.read_writes_full _ _ _ _ _)
    · exact View.readAt_full _ _ _
    · exact View.readAt_full _ _ _
    · exact View.readAt_full _ _ _
    · show View.ld (View.read (Elt F) _ _) _ = View.ld _ _
      exact congrArg (fun X => View.ld X (Rect.unit _ _ _)) (View.read_writes_full _ _ _ _ _)

set_option maxHeartbeats 8000000 in
/-- The body at the first point of the last row: the last block is reduced, the sums over rows are given out, and one block of the result is finished. -/
theorem sound_reduce (c : Dev nD) (E : Set ℕ) (i : grid0.Coords) (h1 : ¬ (k0_first i = 1#1)) (h2 : ¬ k0_cond2 i = 1#1) (h3 : k0_cond3 i = 1#1) (h4 : k0_cond4 i = 1#1) (arg2 : Memref sig .tc .vmem S512x10240 .bf16) (harg2 : arg2.IsWhole) (arg3 : Memref sig .tc .vmem S512x10240 .fp8e4m3) (harg3 : arg3.IsWhole) (arg4 : Memref sig .tc .vmem S1x10240 .f32) (harg4 : arg4.IsWhole) (arg5 : Memref sig .tc .vmem S512x512 .fp8e4m3) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512 .f32) (harg8 : arg8.IsWhole) (arg9 : Memref sig .tc .vmem S512x512 .fp8e4m3) (harg9 : arg9.IsWhole) (arg10 : Memref sig .tc .vmem S512x1 .f32) (harg10 : arg10.IsWhole) (arg11 : Memref sig .tc .vmem S512x1 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S16x1x512 .f32) (harg14 : arg14.IsWhole) (arg15 : Memref sig .tc .vmem S16x512x512 .f32) (harg15 : arg15.IsWhole) (arg16 : Memref sig .tc .vmem S512x128 .f32) (harg16 : arg16.IsWhole) (arg17 : Memref sig .tc .vmem S512x1 .f32) (harg17 : arg17.IsWhole) (arg18 : Memref sig .tc .vmem S16x8x512 .f32) (harg18 : arg18.IsWhole)
    (x0 : Vec F S512x10240 .bf16) (x1 : Vec F S512x10240 .fp8e4m3) (x2 : Vec F S1x10240 .f32) (x3 : Vec F S512x512 .fp8e4m3) (x4 : Vec F S512x1 .f32) (x5 : Vec F S512x1 .f32) (x6 : Vec F S1x512 .f32) (x7 : Vec F S512x512 .fp8e4m3) (x8 : Vec F S512x1 .f32) (x9 : Vec F S512x1 .f32) (x10 : Vec F S1x512 .f32) (xa : Vec F S16x512x512 .f32) (xt : Vec F S512x128 .f32) (xm : Vec F S512x1 .f32) (xd : Vec F S16x8x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ owns (c : Thread nD τ) arg15 fullShare xa ∗ owns (c : Thread nD τ) arg16 fullShare xt ∗ owns (c : Thread nD τ) arg17 fullShare xm ∗ owns (c : Thread nD τ) arg18 fullShare xd
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (outC i h3 x0 x1 x2 x3 x4 x5 x6 x7 x8 x9 x10 (stepC i h3 h4 x0 x1 x2 x3 x4 x5 x6 x7 x8 x9 x10 ⟨xa, xt, xm, xd⟩)) ∗ owns (c : Thread nD τ) arg14 fullShare (dgC (stepC i h3 h4 x0 x1 x2 x3 x4 x5 x6 x7 x8 x9 x10 ⟨xa, xt, xm, xd⟩)) ∗ owns (c : Thread nD τ) arg15 fullShare (stepC i h3 h4 x0 x1 x2 x3 x4 x5 x6 x7 x8 x9 x10 ⟨xa, xt, xm, xd⟩).acc ∗ owns (c : Thread nD τ) arg16 fullShare (stepC i h3 h4 x0 x1 x2 x3 x4 x5 x6 x7 x8 x9 x10 ⟨xa, xt, xm, xd⟩).sum ∗ owns (c : Thread nD τ) arg17 fullShare (stepC i h3 h4 x0 x1 x2 x3 x4 x5 x6 x7 x8 x9 x10 ⟨xa, xt, xm, xd⟩).mean ∗ owns (c : Thread nD τ) arg18 fullShare (stepC i h3 h4 x0 x1 x2 x3 x4 x5 x6 x7 x8 x9 x10 ⟨xa, xt, xm, xd⟩).dga) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_dx_eq_skeleton]; unfold cc0_dx_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%f15, %hf15, H15⟩, ⟨%f16, %hf16, H16⟩, Hk⟩
  subst hf0 hf1 hf2 hf3 hf4 hf5 hf6 hf7 hf8 hf9 hf10 hf13 hf14 hf15 hf16
  sl_exec (disch := first | sl_exact h1 | sl_exact h2 | sl_exact h3 | sl_exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_full _ _ _ _ _).trans ?_
    unfold outC
    show k0_pay10 _ _ _ _ _ _ _ = k0_pay10 _ _ _ _ _ _ _
    congr 1
    · first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl
    · first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl
    · first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl
    · first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl
    · first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl
    · refine (View.readAt_writes_full _ _ _ _ _ _).trans ?_
      unfold stepC totalC
      dsimp only
      show k0_pay8 _ (k0_pay22 _ _ _ _ _ _) _ = k0_pay8 _ (k0_pay22 _ _ _ _ _ _) _
      congr 1
      · congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
      · first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl
  isplitl [H12]
  · iexists _; isplitr
    swap; · iexact H12
    ipureintro
    refine (View.read_writes_full _ _ _ _ _).trans ?_
    unfold dgC
    show k0_pay9 _ = k0_pay9 _
    congr 1
    refine (View.readAt_full _ _ _).trans ?_
    refine (View.read_writes_cons_put _ _ _ _ _ rfl).trans ?_
    unfold stepC
    dsimp only
    congr 1
    congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
  isplitl [H13]
  · iexists _; isplitr
    swap; · iexact H13
    ipureintro
    rfl
  isplitl [H14]
  · iexists _; isplitr
    swap; · iexact H14
    ipureintro
    refine (View.read_writes_full _ _ _ _ _).trans ?_
    unfold stepC totalC
    dsimp only
    show k0_pay7 (k0_pay22 _ _ _ _ _ _) _ _ = k0_pay7 (k0_pay22 _ _ _ _ _ _) _ _
    congr 1
    · congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
  isplitl [H15]
  · iexists _; isplitr
    swap; · iexact H15
    ipureintro
    refine (View.read_writes_full _ _ _ _ _).trans ?_
    unfold stepC totalC
    dsimp only
    show k0_pay8 _ (k0_pay22 _ _ _ _ _ _) _ = k0_pay8 _ (k0_pay22 _ _ _ _ _ _) _
    congr 1
    · congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)
    · first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl
  iexists _; isplitr
  swap; · iexact H16
  ipureintro
  refine (View.read_writes_cons_put _ _ _ _ _ rfl).trans ?_
  unfold stepC
  dsimp only
  congr 1
  congr 1 <;> (first | with_reducible rfl | exact View.readAt_full _ _ _ | exact View.readAt_writes_full _ _ _ _ _ _ | exact View.readCov_full _ _ _ _ _ | exact View.read_writes_full _ _ _ _ _ | exact congrArg (fun X => View.ld X (Rect.unit _ _ _)) (View.read_writes_full _ _ _ _ _) | rfl)

end Cert.DxIdeal.Hand

end
-- ==== Proof.DxIdealRun.lean ====
module

public import proofs.«01_k».proof.Proof.DxIdealBody
public import Idealize.ShloMosaic.Lib.Pipeline.TableIdle
public import Idealize.ShloMosaic.Lib.Claim

/-! # The run of the kernel over its whole grid

The scratch before every point, as the steps of the points before it; the results' blocks after every point; and the
launch: every execution terminates and leaves the result arrays at these blocks. -/

@[expose] public section

set_option maxRecDepth 16384

noncomputable section

namespace Cert.DxIdeal.Hand

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which kind of point is which -/

theorem first_iff : ∀ t : Fin cfg0.N, k0_first (grid0.coords t) = 1#1 ↔ t.val = 0 := by decide +kernel
theorem cond2_iff : ∀ t : Fin cfg0.N, k0_cond2 (grid0.coords t) = 1#1 ↔ t.val < 384 := by decide +kernel
theorem cond3_iff : ∀ t : Fin cfg0.N, k0_cond3 (grid0.coords t) = 1#1 ↔ 384 ≤ t.val := by decide +kernel
theorem cond4_iff : ∀ t : Fin cfg0.N, k0_cond4 (grid0.coords t) = 1#1 ↔ t.val % 16 = 0 := by decide +kernel
theorem idle11 : ∀ t : Fin cfg0.N, cfg0.idle 11 (cfg0.grid.coords t) = false := by decide +kernel
theorem idle12 : ∀ t : Fin cfg0.N, cfg0.idle 12 (cfg0.grid.coords t) = !decide (t.val = 384) := by decide +kernel

theorem cond3_of (t : Fin cfg0.N) (h : ¬ k0_cond2 (grid0.coords t) = 1#1) : k0_cond3 (grid0.coords t) = 1#1 :=
  (cond3_iff t).2 (not_lt.1 fun h' => h ((cond2_iff t).2 h'))

theorem lt_N {t : ℕ} (h : t < cfg0.N) : t < 400 := lt_of_lt_of_eq h N_0
theorem N_eq : cfg0.N = 400 := N_0

/-! ## The scratch and the results' blocks -/

/-- The scratch after the point `t`, from the scratch before it. -/
def stepAt (c : Dev nD) (t : Fin cfg0.N) (s : St F) : St F :=
  if h2 : k0_cond2 (grid0.coords t) = 1#1 then
    stepA (grid0.coords t) h2 (iblk m c 0 t) (iblk m c 1 t) (iblk m c 2 t) (iblk m c 3 t) (iblk m c 4 t) (iblk m c 5 t) (iblk m c 6 t) (iblk m c 7 t) (iblk m c 8 t) (iblk m c 9 t) (iblk m c 10 t) s
  else if h4 : k0_cond4 (grid0.coords t) = 1#1 then
    stepC (grid0.coords t) (cond3_of t h2) h4 (iblk m c 0 t) (iblk m c 1 t) (iblk m c 2 t) (iblk m c 3 t) (iblk m c 4 t) (iblk m c 5 t) (iblk m c 6 t) (iblk m c 7 t) (iblk m c 8 t) (iblk m c 9 t) (iblk m c 10 t) s
  else s

/-- The scratch before the point at position `n`: nothing is kept from before the first. -/
def stAt (c : Dev nD) : ℕ → St F
  | 0 => zeroSt
  | n + 1 => if h : n < cfg0.N then stepAt m c ⟨n, h⟩ (stAt c n) else stAt c n

theorem stAt_succ (c : Dev nD) (t : Fin cfg0.N) : stAt m c (t.val + 1) = stepAt m c t (stAt m c t.val) := by
  rw [stAt, dif_pos t.isLt]

/-- The first result's block after the point `t`. -/
def outAt (c : Dev nD) (t : Fin cfg0.N) : Vec F S512x512 .bf16 :=
  if h2 : k0_cond2 (grid0.coords t) = 1#1 then
    outA (grid0.coords t) h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (stAt m c t.val)
  else
    outC (grid0.coords t) (cond3_of t h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (stAt m c (t.val + 1))

/-! ## The pipeline's proof data -/

/-- What is held of the scratch before the point at position `n`. -/
def PhiS (c : Dev nD) : ℕ → sProp 𝕄
  | 0 => Pipeline.ΦA spec0 c
  | n + 1 => iprop((owns (c : Thread nD τ) (Memref.whole cc0_scratch0) fullShare (stAt m c (n + 1)).acc ∗ owns (c : Thread nD τ) (Memref.whole cc0_scratch1) fullShare (stAt m c (n + 1)).sum ∗ owns (c : Thread nD τ) (Memref.whole cc0_scratch2) fullShare (stAt m c (n + 1)).mean ∗ owns (c : Thread nD τ) (Memref.whole cc0_scratch3) fullShare (stAt m c (n + 1)).dga) ∗ ∃ r, prngReg c r)

theorem PhiS_pos (c : Dev nD) {n : ℕ} (h : n ≠ 0) :
    (PhiS m c n : sProp 𝕄) = iprop((owns (c : Thread nD τ) (Memref.whole cc0_scratch0) fullShare (stAt m c n).acc ∗ owns (c : Thread nD τ) (Memref.whole cc0_scratch1) fullShare (stAt m c n).sum ∗ owns (c : Thread nD τ) (Memref.whole cc0_scratch2) fullShare (stAt m c n).mean ∗ owns (c : Thread nD τ) (Memref.whole cc0_scratch3) fullShare (stAt m c n).dga) ∗ ∃ r, prngReg c r) := by
  cases n with
  | zero => exact absurd rfl h
  | succ n => rfl

/-- The arrays as the region finds them; each input's block left in place; the results' blocks as computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
    | ⟨12, _⟩ => dgC (stAt m c 385)
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outAt m c t := by dsimp only [dats]
theorem after0_12 (c : Dev nD) (t : Fin cfg0.N) : (dats m 0 c).after 12 t = dgC (stAt m c 385) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The second result's buffer holds nothing of use up to the point that stores it, and its final contents from then on. -/
theorem fresh12 : ∀ n, n ≤ cfg0.N → cfg0.fresh 12 n = (decide (n ≤ 384) || decide (n = 400)) :=
  Pipeline.Cfg.fresh_tab cfg0 12 (fun n => decide (n ≤ 384) || decide (n = 400)) rfl (by decide +kernel)

theorem before0_12 (c : Dev nD) (t : Fin cfg0.N) (h : 384 < t.val) (d) : (dats m 0 c).before 12 t d = dgC (stAt m c 385) := by
  have ht := lt_N t.isLt
  rw [(dats m 0 c).before_out_traj 12 rfl (fun _ _ => rfl) (fun t _ _ _ => by rw [after0_12, after0_12]) t.val t rfl d,
    fresh12 t.val t.isLt.le, if_neg (by simp; omega), after0_12]

theorem leaves11 (c : Dev nD) (t : Fin cfg0.N) : (dats m 0 c).leavesExact 11 t = owns (c : Thread nD τ) (st0_11 t) fullShare (outAt m c t) := by
  unfold Dat.leavesExact
  rw [idle11 t, after0_11]

theorem flush12 (t : Fin cfg0.N) (h : t.val ≠ 399) : (cfg0.win 12).flush t = false := by
  have ht := lt_N t.isLt
  rw [Bool.eq_false_iff]
  exact fun hf => h (by have := (flush0_12 t).1 hf; omega)

theorem leaves12_idle (c : Dev nD) (t : Fin cfg0.N) (h : t.val ≠ 384) (h' : t.val ≠ 399) :
    (dats m 0 c).leavesExact 12 t = iprop(∃ d, owns (c : Thread nD τ) (st0_12 t) fullShare ((dats m 0 c).before 12 t d)) :=
  (dats m 0 c).leavesExact_idle 12 t (by rw [idle12 t, decide_eq_false h]; rfl) (flush12 t h')

theorem leaves12_live (c : Dev nD) (t : Fin cfg0.N) (h : t.val = 384) :
    (dats m 0 c).leavesExact 12 t = owns (c : Thread nD τ) (st0_12 t) fullShare (dgC (stAt m c 385)) := by
  unfold Dat.leavesExact
  rw [idle12 t, decide_eq_true h, after0_12]; rfl

theorem leaves12_last (c : Dev nD) (t : Fin cfg0.N) (h : t.val = 399) :
    (dats m 0 c).leavesExact 12 t = owns (c : Thread nD τ) (st0_12 t) fullShare (dgC (stAt m c 385)) := by
  unfold Dat.leavesExact
  rw [idle12 t, (flush0_12 t).2 (by omega), after0_12]
  cases decide (t.val = 384) <;> rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (dats m 0 c).leavesExact 11 t ∗ (dats m 0 c).leavesExact 12 t)

theorem PhiA_eq (c : Dev nD) : (Pipeline.ΦA spec0 c : sProp 𝕄) =
    iprop(((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f)) ∗ ∃ r, prngReg c r) := by
  unfold Pipeline.ΦA
  rw [scopedRest0_eq]
  simp only [owns_whole]

theorem sound_body_first (c : Dev nD) (t : Fin cfg0.N) (h : t.val = 0) :
    bodyPre m c t ⊢ wp frame (wpE (defs₀ (F := F)) Variants.none c none) Set.univ (bodyAt0 t) (fun _ => bodyPost m c t) := by
  have ht := lt_N t.isLt
  have h1 := (first_iff t).2 h
  have h2 := (cond2_iff t).2 (by omega)
  have h3 : ¬ k0_cond3 (grid0.coords t) = 1#1 := fun h' => by have := (cond3_iff t).1 h'; omega
  have h0 : stAt m c t.val = zeroSt := by rw [h]; rfl
  have hst : stAt m c (t.val + 1) = stepA (grid0.coords t) h2 (iblk m c 0 t) (iblk m c 1 t) (iblk m c 2 t) (iblk m c 3 t) (iblk m c 4 t) (iblk m c 5 t) (iblk m c 6 t) (iblk m c 7 t) (iblk m c 8 t) (iblk m c 9 t) (iblk m c 10 t) zeroSt := by
    rw [stAt_succ]; unfold stepAt; rw [dif_pos h2, h0]
  have hout : outAt m c t = outA (grid0.coords t) h2 (iblk m c 0 t) (iblk m c 1 t) (iblk m c 2 t) (iblk m c 3 t) (iblk m c 4 t) (iblk m c 5 t) (iblk m c 6 t) (iblk m c 7 t) (iblk m c 8 t) (iblk m c 9 t) (iblk m c 10 t) zeroSt := by
    unfold outAt; rw [dif_pos h2, h0]
  unfold bodyPre bodyPost bodyAt0
  rw [show (dats m 0 c).Φ t.castSucc = PhiS m c t.val from rfl, show (dats m 0 c).Φ t.succ = PhiS m c (t.val + 1) from rfl,
    show (PhiS m c t.val : sProp 𝕄) = Pipeline.ΦA spec0 c by rw [h]; rfl, PhiA_eq, PhiS_pos m c (Nat.succ_ne_zero t.val), show (dats m 0 c).owesAt () t.succ = (dats m 0 c).owesAt () t.castSucc from rfl,
    leaves11, leaves12_idle m c t (by omega) (by omega), after0_0, after0_1, after0_2, after0_3, after0_4, after0_5, after0_6, after0_7, after0_8, after0_9, after0_10, hout, hst]
  simp only [before0_0, before0_1, before0_2, before0_3, before0_4, before0_5, before0_6, before0_7, before0_8, before0_9, before0_10]
  iintro ⟨⟨⟨Ha, Ht, Hm, Hd⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_first c Set.univ (grid0.coords t) h1 h2 h3 _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [Ha]; · iexact Ha
  isplitl [Ht]; · iexact Ht
  isplitl [Hm]; · iexact Hm
  isplitl [Hd]; · iexact Hd
  iintro ⟨H0, H1, H2, H3, H4, H5, H6, H7, H8, H9, H10, H11, H12, Ha, Ht, Hm, Hd⟩
  isplitl [Ha Ht Hm Hd HP]
  · isplitl [Ha Ht Hm Hd]
    · isplitl [Ha]; · iexact Ha
      isplitl [Ht]; · iexact Ht
      isplitl [Hm]; · iexact Hm
      iexact Hd
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _; iexact H12

theorem sound_body_step (c : Dev nD) (t : Fin cfg0.N) (h : t.val ≠ 0) (h' : t.val < 384) :
    bodyPre m c t ⊢ wp frame (wpE (defs₀ (F := F)) Variants.none c none) Set.univ (bodyAt0 t) (fun _ => bodyPost m c t) := by
  have ht := lt_N t.isLt
  have h1 : ¬ k0_first (grid0.coords t) = 1#1 := fun h'' => h ((first_iff t).1 h'')
  have h2 := (cond2_iff t).2 h'
  have h3 : ¬ k0_cond3 (grid0.coords t) = 1#1 := fun h' => by have := (cond3_iff t).1 h'; omega
  have hst : stAt m c (t.val + 1) = stepA (grid0.coords t) h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (stAt m c t.val) := by
    rw [stAt_succ]; unfold stepAt; rw [dif_pos h2]
  have hout : outAt m c t = outA (grid0.coords t) h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (stAt m c t.val) := by
    unfold outAt; rw [dif_pos h2]
  unfold bodyPre bodyPost bodyAt0
  rw [show (dats m 0 c).Φ t.castSucc = PhiS m c t.val from rfl, show (dats m 0 c).Φ t.succ = PhiS m c (t.val + 1) from rfl,
    PhiS_pos m c h, PhiS_pos m c (Nat.succ_ne_zero t.val), show (dats m 0 c).owesAt () t.succ = (dats m 0 c).owesAt () t.castSucc from rfl,
    leaves11, leaves12_idle m c t (by omega) (by omega), after0_0, after0_1, after0_2, after0_3, after0_4, after0_5, after0_6, after0_7, after0_8, after0_9, after0_10, hout, hst]
  simp only [before0_0, before0_1, before0_2, before0_3, before0_4, before0_5, before0_6, before0_7, before0_8, before0_9, before0_10]
  iintro ⟨⟨⟨Ha, Ht, Hm, Hd⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_step c Set.univ (grid0.coords t) h1 h2 h3 _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _ (stAt m c t.val).acc (stAt m c t.val).sum (stAt m c t.val).mean (stAt m c t.val).dga _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [Ha]; · iexact Ha
  isplitl [Ht]; · iexact Ht
  isplitl [Hm]; · iexact Hm
  isplitl [Hd]; · iexact Hd
  iintro ⟨H0, H1, H2, H3, H4, H5, H6, H7, H8, H9, H10, H11, H12, Ha, Ht, Hm, Hd⟩
  isplitl [Ha Ht Hm Hd HP]
  · isplitl [Ha Ht Hm Hd]
    · isplitl [Ha]; · iexact Ha
      isplitl [Ht]; · iexact Ht
      isplitl [Hm]; · iexact Hm
      iexact Hd
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _; iexact H12

theorem sound_body_reduce (c : Dev nD) (t : Fin cfg0.N) (h : t.val = 384) :
    bodyPre m c t ⊢ wp frame (wpE (defs₀ (F := F)) Variants.none c none) Set.univ (bodyAt0 t) (fun _ => bodyPost m c t) := by
  have ht := lt_N t.isLt
  have h1 : ¬ k0_first (grid0.coords t) = 1#1 := fun h'' => by have := (first_iff t).1 h''; omega
  have h2 : ¬ k0_cond2 (grid0.coords t) = 1#1 := fun h'' => by have := (cond2_iff t).1 h''; omega
  have h3 := (cond3_iff t).2 (by omega)
  have h4 := (cond4_iff t).2 (by omega)
  have h5 : stAt m c 385 = stAt m c (t.val + 1) := by rw [h]
  have hst : stAt m c (t.val + 1) = stepC (grid0.coords t) h3 h4 (iblk m c 0 t) (iblk m c 1 t) (iblk m c 2 t) (iblk m c 3 t) (iblk m c 4 t) (iblk m c 5 t) (iblk m c 6 t) (iblk m c 7 t) (iblk m c 8 t) (iblk m c 9 t) (iblk m c 10 t) (stAt m c t.val) := by
    rw [stAt_succ]; unfold stepAt; rw [dif_neg h2, dif_pos h4]
  have hout : outAt m c t = outC (grid0.coords t) h3 (iblk m c 0 t) (iblk m c 1 t) (iblk m c 2 t) (iblk m c 3 t) (iblk m c 4 t) (iblk m c 5 t) (iblk m c 6 t) (iblk m c 7 t) (iblk m c 8 t) (iblk m c 9 t) (iblk m c 10 t) (stAt m c (t.val + 1)) := by
    unfold outAt; rw [dif_neg h2]
  unfold bodyPre bodyPost bodyAt0
  rw [show (dats m 0 c).Φ t.castSucc = PhiS m c t.val from rfl, show (dats m 0 c).Φ t.succ = PhiS m c (t.val + 1) from rfl,
    PhiS_pos m c (by omega : t.val ≠ 0), PhiS_pos m c (Nat.succ_ne_zero t.val), show (dats m 0 c).owesAt () t.succ = (dats m 0 c).owesAt () t.castSucc from rfl,
    leaves11, leaves12_live m c t h, h5, after0_0, after0_1, after0_2, after0_3, after0_4, after0_5, after0_6, after0_7, after0_8, after0_9, after0_10, hout, hst]
  simp only [before0_0, before0_1, before0_2, before0_3, before0_4, before0_5, before0_6, before0_7, before0_8, before0_9, before0_10]
  iintro ⟨⟨⟨Ha, Ht, Hm, Hd⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_reduce c Set.univ (grid0.coords t) h1 h2 h3 h4 _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (stAt m c t.val).acc (stAt m c t.val).sum (stAt m c t.val).mean (stAt m c t.val).dga _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [Ha]; · iexact Ha
  isplitl [Ht]; · iexact Ht
  isplitl [Hm]; · iexact Hm
  isplitl [Hd]; · iexact Hd
  iintro ⟨H0, H1, H2, H3, H4, H5, H6, H7, H8, H9, H10, H11, H12, Ha, Ht, Hm, Hd⟩
  isplitl [Ha Ht Hm Hd HP]
  · isplitl [Ha Ht Hm Hd]
    · isplitl [Ha]; · iexact Ha
      isplitl [Ht]; · iexact Ht
      isplitl [Hm]; · iexact Hm
      iexact Hd
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem sound_body_finish (c : Dev nD) (t : Fin cfg0.N) (h : 384 < t.val) (h' : t.val ≠ 399) :
    bodyPre m c t ⊢ wp frame (wpE (defs₀ (F := F)) Variants.none c none) Set.univ (bodyAt0 t) (fun _ => bodyPost m c t) := by
  have ht := lt_N t.isLt
  have h1 : ¬ k0_first (grid0.coords t) = 1#1 := fun h'' => by have := (first_iff t).1 h''; omega
  have h2 : ¬ k0_cond2 (grid0.coords t) = 1#1 := fun h'' => by have := (cond2_iff t).1 h''; omega
  have h3 := (cond3_iff t).2 (by omega)
  have h4 : ¬ k0_cond4 (grid0.coords t) = 1#1 := fun h'' => by have := (cond4_iff t).1 h''; omega
  have hst : stAt m c (t.val + 1) = stAt m c t.val := by
    rw [stAt_succ]; unfold stepAt; rw [dif_neg h2, dif_neg h4]
  have hout : outAt m c t = outC (grid0.coords t) h3 (iblk m c 0 t) (iblk m c 1 t) (iblk m c 2 t) (iblk m c 3 t) (iblk m c 4 t) (iblk m c 5 t) (iblk m c 6 t) (iblk m c 7 t) (iblk m c 8 t) (iblk m c 9 t) (iblk m c 10 t) (stAt m c t.val) := by
    unfold outAt; rw [dif_neg h2, hst]
  unfold bodyPre bodyPost bodyAt0
  rw [show (dats m 0 c).Φ t.castSucc = PhiS m c t.val from rfl, show (dats m 0 c).Φ t.succ = PhiS m c (t.val + 1) from rfl,
    PhiS_pos m c (by omega : t.val ≠ 0), PhiS_pos m c (Nat.succ_ne_zero t.val), show (dats m 0 c).owesAt () t.succ = (dats m 0 c).owesAt () t.castSucc from rfl,
    leaves11, leaves12_idle m c t (by omega) (by omega), after0_0, after0_1, after0_2, after0_3, after0_4, after0_5, after0_6, after0_7, after0_8, after0_9, after0_10, hout, hst]
  simp only [before0_0, before0_1, before0_2, before0_3, before0_4, before0_5, before0_6, before0_7, before0_8, before0_9, before0_10]
  iintro ⟨⟨⟨Ha, Ht, Hm, Hd⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_finish c Set.univ (grid0.coords t) h1 h2 h3 h4 _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _ (stAt m c t.val).acc (stAt m c t.val).sum (stAt m c t.val).mean (stAt m c t.val).dga _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [Ha]; · iexact Ha
  isplitl [Ht]; · iexact Ht
  isplitl [Hm]; · iexact Hm
  isplitl [Hd]; · iexact Hd
  iintro ⟨H0, H1, H2, H3, H4, H5, H6, H7, H8, H9, H10, H11, H12, Ha, Ht, Hm, Hd⟩
  isplitl [Ha Ht Hm Hd HP]
  · isplitl [Ha Ht Hm Hd]
    · isplitl [Ha]; · iexact Ha
      isplitl [Ht]; · iexact Ht
      isplitl [Hm]; · iexact Hm
      iexact Hd
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _; iexact H12

theorem sound_body_last (c : Dev nD) (t : Fin cfg0.N) (h : t.val = 399) :
    bodyPre m c t ⊢ wp frame (wpE (defs₀ (F := F)) Variants.none c none) Set.univ (bodyAt0 t) (fun _ => bodyPost m c t) := by
  have ht := lt_N t.isLt
  have h1 : ¬ k0_first (grid0.coords t) = 1#1 := fun h'' => by have := (first_iff t).1 h''; omega
  have h2 : ¬ k0_cond2 (grid0.coords t) = 1#1 := fun h'' => by have := (cond2_iff t).1 h''; omega
  have h3 := (cond3_iff t).2 (by omega)
  have h4 : ¬ k0_cond4 (grid0.coords t) = 1#1 := fun h'' => by have := (cond4_iff t).1 h''; omega
  have hst : stAt m c (t.val + 1) = stAt m c t.val := by
    rw [stAt_succ]; unfold stepAt; rw [dif_neg h2, dif_neg h4]
  have hout : outAt m c t = outC (grid0.coords t) h3 (iblk m c 0 t) (iblk m c 1 t) (iblk m c 2 t) (iblk m c 3 t) (iblk m c 4 t) (iblk m c 5 t) (iblk m c 6 t) (iblk m c 7 t) (iblk m c 8 t) (iblk m c 9 t) (iblk m c 10 t) (stAt m c t.val) := by
    unfold outAt; rw [dif_neg h2, hst]
  unfold bodyPre bodyPost bodyAt0
  rw [show (dats m 0 c).Φ t.castSucc = PhiS m c t.val from rfl, show (dats m 0 c).Φ t.succ = PhiS m c (t.val + 1) from rfl,
    PhiS_pos m c (by omega : t.val ≠ 0), PhiS_pos m c (Nat.succ_ne_zero t.val), show (dats m 0 c).owesAt () t.succ = (dats m 0 c).owesAt () t.castSucc from rfl,
    leaves11, leaves12_last m c t (by omega), after0_0, after0_1, after0_2, after0_3, after0_4, after0_5, after0_6, after0_7, after0_8, after0_9, after0_10, hout, hst]
  simp only [before0_0, before0_1, before0_2, before0_3, before0_4, before0_5, before0_6, before0_7, before0_8, before0_9, before0_10, before0_12 m c t (by omega)]
  iintro ⟨⟨⟨Ha, Ht, Hm, Hd⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_finish c Set.univ (grid0.coords t) h1 h2 h3 h4 _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _ (stAt m c t.val).acc (stAt m c t.val).sum (stAt m c t.val).mean (stAt m c t.val).dga _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [Ha]; · iexact Ha
  isplitl [Ht]; · iexact Ht
  isplitl [Hm]; · iexact Hm
  isplitl [Hd]; · iexact Hd
  iintro ⟨H0, H1, H2, H3, H4, H5, H6, H7, H8, H9, H10, H11, H12, Ha, Ht, Hm, Hd⟩
  isplitl [Ha Ht Hm Hd HP]
  · isplitl [Ha Ht Hm Hd]
    · isplitl [Ha]; · iexact Ha
      isplitl [Ht]; · iexact Ht
      isplitl [Hm]; · iexact Hm
      iexact Hd
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  have ht := lt_N t.isLt
  by_cases h : t.val = 0
  · exact sound_body_first m c t h
  by_cases h' : t.val < 384
  · exact sound_body_step m c t h h'
  by_cases h'' : t.val = 384
  · exact sound_body_reduce m c t h''
  by_cases h3 : t.val = 399
  · exact sound_body_last m c t h3
  · exact sound_body_finish m c t (by omega) h3

/-- The body table's row at point `t`'s slots is the body as the frame spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N from rfl, PhiS_pos m c (by rw [N_eq]; decide), PhiA_eq]
  iintro ⟨⟨Ha, Ht, Hm, Hd⟩, HP⟩
  isplitl [Ha Ht Hm Hd]
  · isplitl [Ha]; · iexists _; iexact Ha
    isplitl [Ht]; · iexists _; iexact Ht
    isplitl [Hm]; · iexists _; iexact Hm
    iexists _; iexact Hd
  iexact HP

set_option backward.isDefEq.respectTransparency.types false in
set_option maxHeartbeats 800000 in
/-- The launch: every execution terminates with the arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  θ_run_and (unchanged m ρ) ((θ_run defs _ _).mono (fun _ h => h.2) (run_main_quiescent m ρ))

end Cert.DxIdeal.Hand

end
-- ==== Proof.DxSpec.lean ====
module

public import proofs.«01_k».proof.Proof.Gen.DxRefIdeal.Frame
public import Idealize.ShloMosaic.Lib.Pipeline.ValueKit
public import Idealize.ShloMosaic.Lib.Pointwise
public import Idealize.ShloMosaic.Lib.Claim

/-! # The gradient with respect to the activations, as sums

The two results of the call, entry by entry, over its seven operands. Rows and columns are plain numbers here; the rows
run through both batches. -/

set_option maxRecDepth 16384

noncomputable section

@[expose] public section

namespace Cert.DxRefIdeal.Val

open Idealize.ShloMosaic Idealize.ShloMosaic.TcCoe Idealize.ShloMosaic.Tactic
open Cert.DxRefIdeal Cert.DxRefIdeal.Gen
open Finset (range)

/-- The seven operands: the activations' codes, their scales, the reciprocal deviations, the weight of the
    normalisation, the matrix' codes, their scales, and the incoming gradient. -/
@[ext] structure Args where
  x : FVec Ideal S2x6144x8192 .fp8e4m3
  s : FVec Ideal S2x6144 .f32
  r : FVec Ideal S2x6144 .f32
  g : FVec Ideal S8192 .f32
  w : FVec Ideal S8192x10240 .fp8e4m3
  v : FVec Ideal S10240 .f32
  q : FVec Ideal S2x6144x10240 .bf16

/-- The batch of a row, its place there, and a column. -/
def bt (n : ℕ) : Fin 2 := ⟨n / 6144 % 2, Nat.mod_lt _ (by decide)⟩
@[inherit_doc bt] def ps (n : ℕ) : Fin 6144 := ⟨n % 6144, Nat.mod_lt _ (by decide)⟩
@[inherit_doc bt] def cl (d : ℕ) : Fin 8192 := ⟨d % 8192, Nat.mod_lt _ (by decide)⟩

variable (A : Args)

/-- The reciprocal deviation of a row. -/
def Args.rs (n : ℕ) : EReal := A.r (ix2 (bt n) (ps n))

/-- The weight of the normalisation in a column. -/
def Args.gm (d : ℕ) : EReal := A.g (ix1 (cl d))

/-- The product of the incoming gradient and the scaled matrix. -/
def Args.P (n d : ℕ) : EReal := ∑ k : Fin 10240, A.q (ix3 (bt n) (ps n) k) * (A.w (ix2 (cl d) k) * A.v (ix1 k))

/-- The normalised activations. -/
def Args.X (n d : ℕ) : EReal := A.x (ix3 (bt n) (ps n) (cl d)) * A.s (ix2 (bt n) (ps n)) * A.rs n

/-- The mean over a row that the normalisation's derivative subtracts. -/
def Args.mu (n : ℕ) : EReal := (∑ d ∈ range 8192, A.P n d * A.X n d * A.gm d) * Ideal.ofBits .f32 0x39000000#32

/-- One entry of the first result. -/
def Args.dx (n d : ℕ) : EReal := A.rs n * (A.P n d * A.gm d - A.X n d * A.mu n)

/-- One entry of the second result. -/
def Args.dg (d : ℕ) : EReal := ∑ n ∈ range 12288, A.P n d * A.X n d

/-- The first result. -/
def DX : FVec Ideal S12288x8192 .bf16 := fun y => A.dx (y 0).val (y 1).val

/-- The second result. -/
def DG : FVec Ideal S16x1x512 .f32 := fun y => A.dg ((y 0).val * 512 + (y 2).val)

end Cert.DxRefIdeal.Val

end
-- ==== Proof.DxPay.lean ====
module

public import proofs.«01_k».proof.Proof.Gen.DxIdeal.Skeleton
public import Idealize.ShloMosaic.Lib.Pipeline.ValueKit
public import Idealize.ShloMosaic.Lib.Pointwise
public import Idealize.ShloMosaic.Lib.Claim

/-! # What one grid point computes, entry by entry

Each value that the kernel's body stores, read at one entry, over the blocks and scratch contents the body loads. -/

set_option maxRecDepth 16384

noncomputable section

@[expose] public section

namespace Cert.DxIdeal.Val

open Idealize.ShloMosaic Idealize.ShloMosaic.TcCoe Idealize.ShloMosaic.Tactic
open Cert.DxIdeal Cert.DxIdeal.Gen

/-- The product's block: rows of the gradient against rows of the scaled weights. -/
theorem pay6_apply (w : Vec Ideal S512x10240 .fp8e4m3) (s : Vec Ideal S1x10240 .f32) (q : Vec Ideal S512x10240 .bf16) (y : S1x512x512.Idx) :
    k0_pay6 (F := Ideal) w s q y = ∑ k : Fin 10240, q (ix2 (y 1) k) * (w (ix2 (y 2) k) * s (ix2 0 k)) := by
  pointwise [k0_pay6]

/-- A block of the product times the normalised activations. -/
theorem pay11_apply (a : Vec Ideal S1x512x512 .f32) (x : Vec Ideal S512x512 .fp8e4m3) (s r : Vec Ideal S512x1 .f32) (y : S512x512.Idx) :
    k0_pay11 (F := Ideal) a x s r y = a (ix3 0 (y 0) (y 1)) * (x (ix2 (y 0) (y 1)) * s (ix2 (y 0) 0) * r (ix2 (y 0) 0)) := by
  pointwise [k0_pay11]

theorem pay20_eq : k0_pay20 (F := Ideal) = k0_pay11 (F := Ideal) := rfl
theorem pay21_eq : k0_pay21 (F := Ideal) = k0_pay12 (F := Ideal) := rfl
theorem pay22_eq : k0_pay22 (F := Ideal) = k0_pay13 (F := Ideal) := rfl

/-- The running sums over rows, with a block's rows added: entry `(s, q)` takes the rows congruent to `s` modulo 8. -/
theorem pay12_apply (a : Vec Ideal S1x512x512 .f32) (x : Vec Ideal S512x512 .fp8e4m3) (s r : Vec Ideal S512x1 .f32) (d : Vec Ideal S1x8x512 .f32) (y : S1x8x512.Idx) :
    k0_pay12 (F := Ideal) a x s r d y = d (ix3 0 (y 1) (y 2))
      + ∑ k : Fin 64, k0_pay11 (F := Ideal) a x s r (ix2 ⟨k.val * 8 + (y 1).val, by have h := (y 1).isLt; have : S1x8x512.size 1 = 8 := rfl; omega⟩ (y 2)) := by
  have e : y = ix3 0 (y 1) (y 2) := funext fun i => by
    fin_cases i
    · exact Subsingleton.elim (α := Fin 1) _ _
    · rfl
    · rfl
  pointwise [k0_pay12]
  exact congrArg (fun z => d z + _) e

/-- The running row sums, with a block's columns added: lane `l` takes the columns congruent to `l` modulo 128. -/
theorem pay13_apply (a : Vec Ideal S1x512x512 .f32) (x : Vec Ideal S512x512 .fp8e4m3) (s r : Vec Ideal S512x1 .f32) (g : Vec Ideal S1x512 .f32) (u : Vec Ideal S512x128 .f32) (y : S512x128.Idx) :
    k0_pay13 (F := Ideal) a x s r g u y = u y
      + ∑ k : Fin 4, k0_pay11 (F := Ideal) a x s r (ix2 (y 0) ⟨k.val * 128 + (y 1).val, by have h := (y 1).isLt; have : S512x128.size 1 = 128 := rfl; omega⟩)
          * g (ix2 0 ⟨k.val * 128 + (y 1).val, by have h := (y 1).isLt; have : S512x128.size 1 = 128 := rfl; omega⟩) := by
  rw [Fin.sum_univ_four]
  pointwise [k0_pay13]

/-- The row means of the completed row sums. -/
theorem pay16_one (u : FVec Ideal S512x128 .f32) (v : Vec Ideal S512x1 .f32) (y : S512x1.Idx) :
    k0_pay16 (F := Ideal) 0#32 u v y = (∑ l : Fin 128, u (ix2 (y 0) l)) * Ideal.ofBits .f32 0x39000000#32 := by
  pointwise [k0_pay16]

/-- Away from the first column of points the row means stay. -/
theorem pay16_other (b : BitVec 32) (h : Scalar.cmpi .eq b 0#32 = 0#1) (u : FVec Ideal S512x128 .f32) (v : Vec Ideal S512x1 .f32) :
    k0_pay16 (F := Ideal) b u v = v := by
  funext y
  unfold k0_pay16
  simp only [h]
  pointwise

/-- One entry of the first result's block. -/
theorem pay5_apply (x : Vec Ideal S512x512 .fp8e4m3) (s r : Vec Ideal S512x1 .f32) (a : Vec Ideal S1x512x512 .f32) (g : Vec Ideal S1x512 .f32) (v : Vec Ideal S512x1 .f32) (y : S512x512.Idx) :
    k0_pay5 (F := Ideal) (k0_pay17 x s r) (k0_pay18 a g) (k0_pay19 r) v y
      = r (ix2 (y 0) 0) * (a (ix3 0 (y 0) (y 1)) * g (ix2 0 (y 1)) - x (ix2 (y 0) (y 1)) * s (ix2 (y 0) 0) * r (ix2 (y 0) 0) * v (ix2 (y 0) 0)) := by
  pointwise [k0_pay5, k0_pay17, k0_pay18, k0_pay19]

theorem pay10_eq (x : Vec Ideal S512x512 .fp8e4m3) (s r : Vec Ideal S512x1 .f32) (a : Vec Ideal S1x512x512 .f32) (g : Vec Ideal S1x512 .f32) (v : Vec Ideal S512x1 .f32) :
    k0_pay10 (F := Ideal) x s r a g r v = k0_pay5 (F := Ideal) (k0_pay17 x s r) (k0_pay18 a g) (k0_pay19 r) v := rfl

/-- The second result, from the running sums over rows. -/
theorem pay9_apply (d : Vec Ideal S16x8x512 .f32) (y : S16x1x512.Idx) :
    k0_pay9 (F := Ideal) d y = ∑ s : Fin 8, d (ix3 (y 0) s (y 2)) := by
  pointwise [k0_pay9]

theorem pay1_apply (y) : k0_pay1 (F := Ideal) y = 0 := by pointwise [k0_pay1]
theorem pay2_apply (y) : k0_pay2 (F := Ideal) y = 0 := by pointwise [k0_pay2]
theorem pay3_apply (y) : k0_pay3 (F := Ideal) y = 0 := by pointwise [k0_pay3]
theorem pay4_apply (y) : k0_pay4 (F := Ideal) y = 0 := by pointwise [k0_pay4]

theorem pay7_eq : k0_pay7 (F := Ideal) = k0_pay15 (F := Ideal) := rfl
theorem pay8_eq (i : grid0.Coords) : k0_pay8 (F := Ideal) i = k0_pay16 (F := Ideal) (BitVec.ofNat 32 (i 1).val) := rfl

/-- The running row sums as stored: started anew at the first column of points. -/
theorem pay15_one (u : FVec Ideal S512x128 .f32) (y : S512x128.Idx) : k0_pay15 (F := Ideal) u 1#1 (k0_pay14 (F := Ideal)) y = 0 := by
  pointwise [k0_pay15, k0_pay14]

theorem pay15_zero (u v : FVec Ideal S512x128 .f32) : k0_pay15 (F := Ideal) u 0#1 v = u := by
  funext y
  pointwise [k0_pay15]

end Cert.DxIdeal.Val

end
-- ==== Proof.DxRead.lean ====
module

public import proofs.«01_k».proof.Proof.DxIdealRun
public import proofs.«01_k».proof.Proof.DxSpec
public import proofs.«01_k».proof.Proof.DxPay

/-! # What the blocks of the operands hold

Each operand's block at a grid point, read at one entry, is the operand at the block's place. -/

set_option maxRecDepth 16384

noncomputable section

@[expose] public section

namespace Cert.DxIdeal.Val

open Idealize.ShloMosaic Idealize.ShloMosaic.TcCoe Idealize.ShloMosaic.Tactic
open Cert.DxIdeal Cert.DxIdeal.Gen
open Cert.DxRefIdeal.Val (Args bt ps cl)

variable (m : (ℓ : Loc nD τ sig) → Buf (Elt Ideal) ℓ)

/-- The operands as the kernel is handed them. -/
def args (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6)⟩

/-! Which block each window holds: the point's own for the product, the block before it for the sums, the block a band
earlier for the first result. -/

theorem idx_prod : ∀ t : Fin cfg0.N, t.val < 384 → win0_0.index t = ![t.val / 16, 0] ∧ win0_1.index t = ![t.val % 16, 0]
    ∧ win0_2.index t = ![0, 0] :=
  (by decide +kernel : ∀ t : Fin grid0.N, _)

theorem idx_sum : ∀ t : Fin cfg0.N, 1 ≤ t.val ∧ t.val ≤ 384 → win0_3.index t = ![(t.val - 1) / 16, (t.val - 1) % 16]
    ∧ win0_4.index t = ![(t.val - 1) / 16, 0] ∧ win0_5.index t = ![(t.val - 1) / 16, 0]
    ∧ win0_6.index t = ![0, (t.val - 1) % 16] :=
  (by decide +kernel : ∀ t : Fin grid0.N, _)

theorem idx_out : ∀ t : Fin cfg0.N, 16 ≤ t.val → win0_7.index t = ![t.val / 16 - 1, t.val % 16]
    ∧ win0_8.index t = ![t.val / 16 - 1, 0] ∧ win0_9.index t = ![t.val / 16 - 1, 0]
    ∧ win0_10.index t = ![0, t.val % 16] ∧ win0_11.index t = ![t.val / 16 - 1, t.val % 16] :=
  (by decide +kernel : ∀ t : Fin grid0.N, _)

theorem flush_out : ∀ t : Fin cfg0.N, (cfg0.win 11).flush t = true → 16 ≤ t.val :=
  (by decide +kernel : ∀ t : Fin cfg0.N, _)

/-! The operands the host reshaped, entry by entry, as the kernel finds them. -/

theorem bt_eq (n : Fin 12288) (h : n.val / 6144 < 2) : (⟨n.val / 6144, h⟩ : Fin 2) = bt n.val :=
  Fin.ext (Nat.mod_eq_of_lt h).symm

theorem V0_apply (c : Dev nD) (z : S12288x8192.Idx) (n d : ℕ) (h0 : (z 0).val = n) (h1 : (z 1).val = d) :
    V m c main_v0 z = (args m c).x (ix3 (bt n) (ps n) (cl d)) := by
  subst h0 h1
  have e : cl (z 1).val = z 1 := Fin.ext (Nat.mod_eq_of_lt (z 1).isLt)
  rw [e]
  entry_read
  pointwise
  exact congrArg (fun b => m ((c : Thread nD τ).loc main_arg0) (ix3 b (ps (z 0).val) (z 1))) (bt_eq (z 0) _)

theorem V1_apply (c : Dev nD) (z : S12288x10240.Idx) (n : ℕ) (k : Fin 10240) (h0 : (z 0).val = n) (h1 : z 1 = k) :
    V m c main_v1 z = (args m c).q (ix3 (bt n) (ps n) k) := by
  subst h0 h1
  entry_read
  pointwise
  exact congrArg (fun b => m ((c : Thread nD τ).loc main_arg6) (ix3 b (ps (z 0).val) (z 1))) (bt_eq (z 0) _)

theorem V2_apply (c : Dev nD) (z : S12288x1.Idx) (n : ℕ) (h0 : (z 0).val = n) :
    V m c main_v2 z = (args m c).s (ix2 (bt n) (ps n)) := by
  subst h0
  entry_read
  pointwise
  exact congrArg (fun b => m ((c : Thread nD τ).loc main_arg1) (ix2 b (ps (z 0).val))) (bt_eq (z 0) _)

theorem V3_apply (c : Dev nD) (z : S12288x1.Idx) (n : ℕ) (h0 : (z 0).val = n) :
    V m c main_v3 z = (args m c).rs n := by
  subst h0
  entry_read
  pointwise
  exact congrArg (fun b => m ((c : Thread nD τ).loc main_arg2) (ix2 b (ps (z 0).val))) (bt_eq (z 0) _)

theorem V4_apply (c : Dev nD) (z : S1x8192.Idx) (d : ℕ) (h1 : (z 1).val = d) :
    V m c main_v4 z = (args m c).gm d := by
  subst h1
  have e : cl (z 1).val = z 1 := Fin.ext (Nat.mod_eq_of_lt (z 1).isLt)
  show V m c main_v4 z = (args m c).g (ix1 (cl (z 1).val))
  rw [e]
  entry_read
  pointwise
  rfl

theorem V5_apply (c : Dev nD) (z : S1x10240.Idx) (k : Fin 10240) (h1 : z 1 = k) :
    V m c main_v5 z = (args m c).v (ix1 k) := by
  subst h1
  entry_read
  pointwise
  rfl

/-! ## The operands' blocks -/

theorem rd0 (c : Dev nD) (t : Fin cfg0.N) (h : t.val < 384) (p : Fin 512) (k : Fin 10240) :
    iblk m c 0 t (ix2 p k) = (args m c).q (ix3 (bt (t.val / 16 * 512 + p.val)) (ps (t.val / 16 * 512 + p.val)) k) :=
  V1_apply m c (((cfg0.win 0).blk t).view.emb (ix2 p k)) _ _ (by blk_simp [idx_prod t h]) (Fin.ext (by blk_simp [idx_prod t h]))

theorem rd2 (c : Dev nD) (t : Fin cfg0.N) (h : t.val < 384) (k : Fin 10240) :
    iblk m c 2 t (ix2 0 k) = (args m c).v (ix1 k) :=
  V5_apply m c (((cfg0.win 2).blk t).view.emb (ix2 0 k)) _ (Fin.ext (by blk_simp [idx_prod t h]))

theorem rd3 (c : Dev nD) (t : Fin cfg0.N) (h : 1 ≤ t.val ∧ t.val ≤ 384) (p q : Fin 512) :
    iblk m c 3 t (ix2 p q) = (args m c).x (ix3 (bt ((t.val - 1) / 16 * 512 + p.val)) (ps ((t.val - 1) / 16 * 512 + p.val)) (cl ((t.val - 1) % 16 * 512 + q.val))) :=
  V0_apply m c (((cfg0.win 3).blk t).view.emb (ix2 p q)) _ _ (by blk_simp [idx_sum t h]) (by blk_simp [idx_sum t h])

theorem rd4 (c : Dev nD) (t : Fin cfg0.N) (h : 1 ≤ t.val ∧ t.val ≤ 384) (p : Fin 512) :
    iblk m c 4 t (ix2 p 0) = (args m c).s (ix2 (bt ((t.val - 1) / 16 * 512 + p.val)) (ps ((t.val - 1) / 16 * 512 + p.val))) :=
  V2_apply m c (((cfg0.win 4).blk t).view.emb (ix2 p 0)) _ (by blk_simp [idx_sum t h])

theorem rd5 (c : Dev nD) (t : Fin cfg0.N) (h : 1 ≤ t.val ∧ t.val ≤ 384) (p : Fin 512) :
    iblk m c 5 t (ix2 p 0) = (args m c).rs ((t.val - 1) / 16 * 512 + p.val) :=
  V3_apply m c (((cfg0.win 5).blk t).view.emb (ix2 p 0)) _ (by blk_simp [idx_sum t h])

theorem rd6 (c : Dev nD) (t : Fin cfg0.N) (h : 1 ≤ t.val ∧ t.val ≤ 384) (q : Fin 512) :
    iblk m c 6 t (ix2 0 q) = (args m c).gm ((t.val - 1) % 16 * 512 + q.val) :=
  V4_apply m c (((cfg0.win 6).blk t).view.emb (ix2 0 q)) _ (by blk_simp [idx_sum t h])

theorem rd7 (c : Dev nD) (t : Fin cfg0.N) (h : 16 ≤ t.val) (p q : Fin 512) :
    iblk m c 7 t (ix2 p q) = (args m c).x (ix3 (bt ((t.val / 16 - 1) * 512 + p.val)) (ps ((t.val / 16 - 1) * 512 + p.val)) (cl (t.val % 16 * 512 + q.val))) :=
  V0_apply m c (((cfg0.win 7).blk t).view.emb (ix2 p q)) _ _ (by blk_simp [idx_out t h]) (by blk_simp [idx_out t h])

theorem rd8 (c : Dev nD) (t : Fin cfg0.N) (h : 16 ≤ t.val) (p : Fin 512) :
    iblk m c 8 t (ix2 p 0) = (args m c).s (ix2 (bt ((t.val / 16 - 1) * 512 + p.val)) (ps ((t.val / 16 - 1) * 512 + p.val))) :=
  V2_apply m c (((cfg0.win 8).blk t).view.emb (ix2 p 0)) _ (by blk_simp [idx_out t h])

theorem rd9 (c : Dev nD) (t : Fin cfg0.N) (h : 16 ≤ t.val) (p : Fin 512) :
    iblk m c 9 t (ix2 p 0) = (args m c).rs ((t.val / 16 - 1) * 512 + p.val) :=
  V3_apply m c (((cfg0.win 9).blk t).view.emb (ix2 p 0)) _ (by blk_simp [idx_out t h])

theorem rd10 (c : Dev nD) (t : Fin cfg0.N) (h : 16 ≤ t.val) (q : Fin 512) :
    iblk m c 10 t (ix2 0 q) = (args m c).gm (t.val % 16 * 512 + q.val) :=
  V4_apply m c (((cfg0.win 10).blk t).view.emb (ix2 0 q)) _ (by blk_simp [idx_out t h])

theorem rd1 (c : Dev nD) (t : Fin cfg0.N) (h : t.val < 384) (q : Fin 512) (k : Fin 10240) :
    iblk m c 1 t (ix2 q k) = (args m c).w (ix2 (cl (t.val % 16 * 512 + q.val)) k) := by
  have e : ((cfg0.win 1).blk t).view.emb (ix2 q k) = ix2 (cl (t.val % 16 * 512 + q.val)) k := by
    funext a
    apply Fin.ext
    fin_cases a
    · blk_simp [idx_prod t h]
      have hl : t.val % 16 * 512 + q.val < 8192 := by omega
      exact (Nat.mod_eq_of_lt hl).symm
    · blk_simp [idx_prod t h]
      rfl
  exact congrArg (m ((c : Thread nD τ).loc main_arg4)) e

end Cert.DxIdeal.Val

end
-- ==== Proof.DxScratch.lean ====
module

public import proofs.«01_k».proof.Proof.DxRead

/-! # What the scratch holds

The kernel keeps a band of the product's blocks, the running row sums, the row means and the running sums over rows.
Here each is given in closed form at every grid point, by one step lemma and one induction each. -/

set_option maxRecDepth 16384

noncomputable section

@[expose] public section

namespace Cert.DxIdeal.Val

open Idealize.ShloMosaic Idealize.ShloMosaic.TcCoe Idealize.ShloMosaic.Tactic
open Cert.DxIdeal Cert.DxIdeal.Gen Cert.DxIdeal.Hand
open Cert.DxRefIdeal.Val (Args bt ps cl)
open Finset (range)

/-! ## One block of a stacked buffer -/

/-- Block `k` of a stack of 16, read at an entry. -/
theorem ld_block {a : ℕ} (x : Vec Ideal ⟨3, ![16, a, 512]⟩ .f32) (k : Fin 16) (off : Fin 3 → ℕ) (h : off = ![k.val, 0, 0])
    (inb) (j : Fin 1) (p : Fin a) (q : Fin 512) :
    View.ld x (Rect.unit (s := ⟨3, ![16, a, 512]⟩) off ![1, a, 512] inb) (ix3 j p q) = x (ix3 k p q) := by
  subst h
  rw [View.ld_apply]
  refine congrArg x (funext fun i => Fin.ext ?_)
  fin_cases i
  · show k.val + 1 * j.val = k.val
    omega
  · show 0 + 1 * p.val = p.val
    omega
  · show 0 + 1 * q.val = q.val
    omega

/-- A stack of 16 with block `k` replaced, read at an entry. -/
theorem put_block {a : ℕ} (x : (⟨3, ![16, a, 512]⟩ : Shape).Idx → EReal) (k : Fin 16) (off : Fin 3 → ℕ) (h : off = ![k.val, 0, 0])
    (w : (⟨3, ![1, a, 512]⟩ : Shape).Idx → EReal) (j : Fin 16) (p : Fin a) (q : Fin 512) :
    VecWindow.put (s := ⟨3, ![16, a, 512]⟩) x off ![1, a, 512] w (ix3 j p q) = if j = k then w (ix3 0 p q) else x (ix3 j p q) := by
  subst h
  unfold VecWindow.put
  by_cases e : j = k
  · subst e
    have hb : ∀ i : Fin 3, (![j.val, 0, 0] : Fin 3 → ℕ) i ≤ (ix3 j p q i).val ∧ (ix3 j p q i).val < (![j.val, 0, 0] : Fin 3 → ℕ) i + (![1, a, 512] : Fin 3 → ℕ) i := fun i => by
      fin_cases i
      · exact ⟨le_refl j.val, Nat.lt_succ_self j.val⟩
      · exact ⟨Nat.zero_le _, (Nat.zero_add a).symm ▸ p.isLt⟩
      · exact ⟨Nat.zero_le _, (Nat.zero_add 512).symm ▸ q.isLt⟩
    rw [if_pos rfl, dif_pos hb]
    refine congrArg w (funext fun i => Fin.ext ?_)
    fin_cases i
    · exact Nat.sub_self j.val
    · rfl
    · rfl
  · rw [if_neg e, dif_neg]
    intro hb
    have h0 := hb 0
    have h1 : k.val ≤ j.val ∧ j.val < k.val + 1 := h0
    exact e (Fin.ext (by omega))

/-! ## The points' coordinates -/

/-- The block a point fills, and the one before it. -/
def cur (t : ℕ) : Fin 16 := ⟨t % 16, Nat.mod_lt _ (by decide)⟩
@[inherit_doc cur] def prv (t : ℕ) : Fin 16 := ⟨(t + 15) % 16, Nat.mod_lt _ (by decide)⟩

theorem co1 : ∀ t : Fin cfg0.N, (grid0.coords t 1).val = t.val % 16 :=
  (by decide +kernel : ∀ t : Fin grid0.N, _)

theorem first16 : ∀ t : Fin cfg0.N, Scalar.cmpi .eq (BitVec.ofNat 32 (grid0.coords t 1).val) 0#32 = if t.val % 16 = 0 then 1#1 else 0#1 :=
  (by decide +kernel : ∀ t : Fin grid0.N, _)

theorem prv_off (t : Fin cfg0.N) : (![((grid0.coords t 1).val + 15) % 16, 0, 0] : Fin 3 → ℕ) = ![(prv t.val).val, 0, 0] := by
  rw [co1]
  show ![(t.val % 16 + 15) % 16, 0, 0] = ![(t.val + 15) % 16, 0, 0]
  rw [show (t.val % 16 + 15) % 16 = (t.val + 15) % 16 by omega]

theorem cur_off (t : Fin cfg0.N) : (![(grid0.coords t 1).val, 0, 0] : Fin 3 → ℕ) = ![(cur t.val).val, 0, 0] := by
  rw [co1]
  rfl

theorem off1_eq (t : Fin cfg0.N) : k0_off1 (grid0.coords t) = ![(prv t.val).val, 0, 0] := (off1_closed _).trans (prv_off t)
theorem off2_eq (t : Fin cfg0.N) : k0_off2 (grid0.coords t) = ![(prv t.val).val, 0, 0] := (off2_closed _).trans (prv_off t)
theorem off3_eq (t : Fin cfg0.N) : k0_off3 (grid0.coords t) = ![(cur t.val).val, 0, 0] := (off3_closed _).trans (cur_off t)
theorem off4_eq (t : Fin cfg0.N) : k0_off4 (grid0.coords t) = ![(prv t.val).val, 0, 0] := (off4_closed _).trans (prv_off t)
theorem off5_eq (t : Fin cfg0.N) : k0_off5 (grid0.coords t) = ![(prv t.val).val, 0, 0] := (off5_closed _).trans (prv_off t)
theorem off6_eq (t : Fin cfg0.N) : k0_off6 (grid0.coords t) = ![(cur t.val).val, 0, 0] := (off6_closed _).trans (cur_off t)

/-! ## The three kinds of step -/

variable (m : (ℓ : Loc nD τ sig) → Buf (Elt Ideal) ℓ)

theorem step_lt (c : Dev nD) (t : Fin cfg0.N) (h : t.val < 384) : stAt m c (t.val + 1)
    = stepA (grid0.coords t) ((cond2_iff t).2 h) (iblk m c 0 t) (iblk m c 1 t) (iblk m c 2 t) (iblk m c 3 t) (iblk m c 4 t) (iblk m c 5 t) (iblk m c 6 t) (iblk m c 7 t) (iblk m c 8 t) (iblk m c 9 t) (iblk m c 10 t) (stAt m c t.val) := by
  rw [stAt_succ]
  unfold stepAt
  rw [dif_pos ((cond2_iff t).2 h)]

theorem step_mid (c : Dev nD) (t : Fin cfg0.N) (h : 384 ≤ t.val) (h' : t.val % 16 = 0) : stAt m c (t.val + 1)
    = stepC (grid0.coords t) ((cond3_iff t).2 h) ((cond4_iff t).2 h') (iblk m c 0 t) (iblk m c 1 t) (iblk m c 2 t) (iblk m c 3 t) (iblk m c 4 t) (iblk m c 5 t) (iblk m c 6 t) (iblk m c 7 t) (iblk m c 8 t) (iblk m c 9 t) (iblk m c 10 t) (stAt m c t.val) := by
  rw [stAt_succ]
  unfold stepAt
  rw [dif_neg (fun e => by have := (cond2_iff t).1 e; omega), dif_pos ((cond4_iff t).2 h')]

theorem step_gt (c : Dev nD) (t : Fin cfg0.N) (h : 384 ≤ t.val) (h' : t.val % 16 ≠ 0) : stAt m c (t.val + 1) = stAt m c t.val := by
  rw [stAt_succ]
  unfold stepAt
  rw [dif_neg (fun e => by have := (cond2_iff t).1 e; omega), dif_neg (fun e => h' ((cond4_iff t).1 e))]

/-! ## The band of the product's blocks -/

theorem acc_step (c : Dev nD) (t : Fin cfg0.N) (h : t.val < 384) (j : Fin 16) (p q : Fin 512) :
    (stAt m c (t.val + 1)).acc (ix3 j p q)
      = if j = cur t.val then (args m c).P (t.val / 16 * 512 + p.val) (t.val % 16 * 512 + q.val) else (stAt m c t.val).acc (ix3 j p q) := by
  rw [step_lt m c t h]
  refine (put_block (a := 512) (stAt m c t.val).acc (cur t.val) _ (off3_eq t) _ j p q).trans ?_
  by_cases e : j = cur t.val
  · rw [if_pos e, if_pos e]
    refine (pay6_apply _ _ _ _).trans (Finset.sum_congr rfl fun k _ => ?_)
    exact congrArg₂ (fun a b : EReal => a * b) (rd0 m c t h p k) (congrArg₂ (fun a b : EReal => a * b) (rd1 m c t h q k) (rd2 m c t h k))
  · rw [if_neg e, if_neg e]

theorem acc_keep (c : Dev nD) (t : Fin cfg0.N) (h : 384 ≤ t.val) : (stAt m c (t.val + 1)).acc = (stAt m c t.val).acc := by
  by_cases h' : t.val % 16 = 0
  · rw [step_mid m c t h h']
    rfl
  · rw [step_gt m c t h h']

/-- The last sixteen blocks of the product are in place. -/
theorem acc_at (c : Dev nD) (n : ℕ) (hn : n ≤ 400) (k : ℕ) (hk : k < 384) (h1 : k < n) (h2 : n ≤ k + 16) (p q : Fin 512) :
    (stAt m c n).acc (ix3 (cur k) p q) = (args m c).P (k / 16 * 512 + p.val) (k % 16 * 512 + q.val) := by
  induction n with
  | zero => omega
  | succ n ih =>
    have hN : n < cfg0.N := by rw [N_eq]; omega
    by_cases h : n < 384
    · refine (acc_step m c ⟨n, hN⟩ h (cur k) p q).trans ?_
      by_cases e : k = n
      · subst e
        exact if_pos rfl
      · refine (if_neg fun e' => ?_).trans (ih (by omega) (by omega) (by omega))
        have : k % 16 = n % 16 := congrArg Fin.val e'
        omega
    · rw [acc_keep m c ⟨n, hN⟩ (by show 384 ≤ n; omega)]
      exact ih (by omega) (by omega) (by omega)

/-! ## What a block gives to the sums -/

/-- One entry of the product times the normalised activations, by block and place in it. -/
def E (A : Args) (k p q : ℕ) : EReal := A.P (k / 16 * 512 + p) (k % 16 * 512 + q) * A.X (k / 16 * 512 + p) (k % 16 * 512 + q)

/-- What the point `t` adds up: the block before it, and nothing at the first point. -/
def E' (A : Args) (t p q : ℕ) : EReal := if t = 0 then 0 else E A (t - 1) p q

theorem part (c : Dev nD) (t : Fin cfg0.N) (h : t.val ≤ 384) (off : Fin 3 → ℕ) (ho : off = ![(prv t.val).val, 0, 0]) (inb) (p q : Fin 512) :
    k0_pay11 (F := Ideal) (View.ld (stAt m c t.val).acc (Rect.unit (s := S16x512x512) off S1x512x512.size inb)) (iblk m c 3 t) (iblk m c 4 t) (iblk m c 5 t) (ix2 p q)
      = E' (args m c) t.val p.val q.val := by
  refine (pay11_apply _ _ _ _ _).trans ?_
  have ea := ld_block (a := 512) (stAt m c t.val).acc (prv t.val) off ho inb 0 p q
  refine (congrArg (fun z : EReal => z * _) ea).trans ?_
  unfold E'
  by_cases h0 : t.val = 0
  · rw [if_pos h0, h0]
    exact (congrArg (fun z : EReal => z * _) (pay1_apply (ix3 (prv 0) p q))).trans (zero_mul _)
  · rw [if_neg h0]
    have hr : 1 ≤ t.val ∧ t.val ≤ 384 := ⟨by omega, h⟩
    have ep : prv t.val = cur (t.val - 1) := Fin.ext (by show (t.val + 15) % 16 = (t.val - 1) % 16; omega)
    rw [ep, acc_at m c t.val (by omega) (t.val - 1) (by omega) (by omega) (by omega) p q]
    exact congrArg (fun z : EReal => _ * z) (congrArg₂ (fun a b : EReal => a * b) (congrArg₂ (fun a b : EReal => a * b) (rd3 m c t hr p q) (rd4 m c t hr p)) (rd5 m c t hr p))

/-- What the point `t` adds to a row sum's lane. -/
def G' (A : Args) (t p l : ℕ) : EReal := if t = 0 then 0 else ∑ k : Fin 4, E A (t - 1) p (k.val * 128 + l) * A.gm ((t - 1) % 16 * 512 + (k.val * 128 + l))

theorem total (c : Dev nD) (t : Fin cfg0.N) (h : t.val ≤ 384) (off : Fin 3 → ℕ) (ho : off = ![(prv t.val).val, 0, 0]) (inb) (p : Fin 512) (l : Fin 128) :
    k0_pay13 (F := Ideal) (View.ld (stAt m c t.val).acc (Rect.unit (s := S16x512x512) off S1x512x512.size inb)) (iblk m c 3 t) (iblk m c 4 t) (iblk m c 5 t) (iblk m c 6 t) (stAt m c t.val).sum (ix2 p l)
      = (stAt m c t.val).sum (ix2 p l) + G' (args m c) t.val p.val l.val := by
  refine (pay13_apply _ _ _ _ _ _ _).trans (congrArg (fun z : EReal => _ + z) ?_)
  unfold G'
  by_cases h0 : t.val = 0
  · rw [if_pos h0]
    refine Finset.sum_eq_zero fun k _ => ?_
    refine (congrArg (fun z : EReal => z * _) (part m c t h off ho inb p _)).trans ?_
    unfold E'
    rw [if_pos h0]
    exact zero_mul _
  · rw [if_neg h0]
    refine Finset.sum_congr rfl fun k _ => ?_
    have hr : 1 ≤ t.val ∧ t.val ≤ 384 := ⟨by omega, h⟩
    refine congrArg₂ (fun a b : EReal => a * b) ((part m c t h off ho inb p _).trans ?_) (rd6 m c t hr _)
    unfold E'
    rw [if_neg h0]
    rfl

/-! ## The running row sums and the row means -/

theorem sum_step (c : Dev nD) (t : Fin cfg0.N) (h : t.val < 384) (p : Fin 512) (l : Fin 128) :
    (stAt m c (t.val + 1)).sum (ix2 p l) = if t.val % 16 = 0 then 0 else (stAt m c t.val).sum (ix2 p l) + G' (args m c) t.val p.val l.val := by
  rw [step_lt m c t h]
  have e := first16 t
  show k0_pay15 (F := Ideal) _ (Scalar.cmpi .eq (BitVec.ofNat 32 (grid0.coords t 1).val) 0#32) _ (ix2 p l) = _
  by_cases h' : t.val % 16 = 0
  · rw [if_pos h'] at e ⊢
    rw [e]
    exact pay15_one _ _
  · rw [if_neg h'] at e ⊢
    rw [e, pay15_zero]
    exact total m c t (le_of_lt h) _ (off1_eq t) _ p l

/-- The row sums of the blocks so far of the band. -/
theorem sum_at (c : Dev nD) (t : ℕ) (ht : t < 384) (p : Fin 512) (l : Fin 128) :
    (stAt m c (t + 1)).sum (ix2 p l) = ∑ u ∈ range (t % 16), G' (args m c) (t / 16 * 16 + u + 1) p.val l.val := by
  induction t with
  | zero => exact (sum_step m c ⟨0, by rw [N_eq]; omega⟩ ht p l).trans (if_pos rfl)
  | succ t ih =>
    have hN : t + 1 < cfg0.N := by rw [N_eq]; omega
    refine (sum_step m c ⟨t + 1, hN⟩ ht p l).trans ?_
    show (if (t + 1) % 16 = 0 then (0 : EReal) else (stAt m c (t + 1)).sum (ix2 p l) + G' (args m c) (t + 1) p.val l.val) = _
    by_cases h' : (t + 1) % 16 = 0
    · rw [if_pos h', h']
      rfl
    · rw [if_neg h', ih (by omega), show (t + 1) % 16 = t % 16 + 1 by omega, Finset.sum_range_succ,
        show (t + 1) / 16 = t / 16 by omega, show t / 16 * 16 + t % 16 + 1 = t + 1 by omega]

theorem mean_step (c : Dev nD) (t : Fin cfg0.N) (h : t.val ≤ 384) (h' : t.val % 16 = 0) (p : Fin 512) :
    (stAt m c (t.val + 1)).mean (ix2 p 0)
      = (∑ l : Fin 128, ((stAt m c t.val).sum (ix2 p l) + G' (args m c) t.val p.val l.val)) * Ideal.ofBits .f32 0x39000000#32 := by
  have e : BitVec.ofNat 32 (grid0.coords t 1).val = 0#32 := by rw [co1, h']
  by_cases hl : t.val < 384
  · rw [step_lt m c t hl]
    show k0_pay16 (F := Ideal) (BitVec.ofNat 32 (grid0.coords t 1).val) _ _ (ix2 p 0) = _
    rw [e]
    refine (pay16_one _ _ _).trans (congrArg (fun z : EReal => z * _) (Finset.sum_congr rfl fun l _ => ?_))
    exact total m c t h _ (off1_eq t) _ p l
  · rw [step_mid m c t (by omega) h']
    show k0_pay8 (F := Ideal) (grid0.coords t) _ _ (ix2 p 0) = _
    rw [pay8_eq, e]
    refine (pay16_one _ _ _).trans (congrArg (fun z : EReal => z * _) (Finset.sum_congr rfl fun l _ => ?_))
    exact total m c t h _ (off4_eq t) _ p l

theorem mean_keep (c : Dev nD) (t : Fin cfg0.N) (h' : t.val % 16 ≠ 0) : (stAt m c (t.val + 1)).mean = (stAt m c t.val).mean := by
  by_cases hl : t.val < 384
  · rw [step_lt m c t hl]
    exact pay16_other _ ((first16 t).trans (if_neg h')) _ _
  · rw [step_gt m c t (by omega) h']

/-! ## The running sums over rows -/

theorem dga_step (c : Dev nD) (t : Fin cfg0.N) (h : t.val ≤ 384) (j : Fin 16) (s : Fin 8) (q : Fin 512) :
    (stAt m c (t.val + 1)).dga (ix3 j s q)
      = (stAt m c t.val).dga (ix3 j s q) + if j = prv t.val then ∑ a : Fin 64, E' (args m c) t.val (a.val * 8 + s.val) q.val else 0 := by
  have key : ∀ (off off' : Fin 3 → ℕ) (ho : off = ![(prv t.val).val, 0, 0]) (ho' : off' = ![(prv t.val).val, 0, 0]) (inb) (inb'),
      VecWindow.put (s := S16x8x512) (stAt m c t.val).dga off' S1x8x512.size
        (k0_pay12 (F := Ideal) (View.ld (stAt m c t.val).acc (Rect.unit (s := S16x512x512) off S1x512x512.size inb)) (iblk m c 3 t) (iblk m c 4 t) (iblk m c 5 t)
          (View.ld (stAt m c t.val).dga (Rect.unit (s := S16x8x512) off' S1x8x512.size inb'))) (ix3 j s q)
      = (stAt m c t.val).dga (ix3 j s q) + if j = prv t.val then ∑ a : Fin 64, E' (args m c) t.val (a.val * 8 + s.val) q.val else 0 := by
    intro off off' ho ho' inb inb'
    refine (put_block (a := 8) (stAt m c t.val).dga (prv t.val) off' ho' _ j s q).trans ?_
    by_cases e : j = prv t.val
    · rw [if_pos e, if_pos e]
      refine (pay12_apply _ _ _ _ _ _).trans (congrArg₂ (fun a b : EReal => a + b) ?_ (Finset.sum_congr rfl fun k _ => ?_))
      · rw [e]
        exact ld_block (a := 8) (stAt m c t.val).dga (prv t.val) off' ho' inb' 0 s q
      · exact part m c t h off ho inb _ q
    · rw [if_neg e, if_neg e, add_zero]
  by_cases hl : t.val < 384
  · rw [step_lt m c t hl]
    exact key _ _ (off1_eq t) (off2_eq t) _ _
  · rw [step_mid m c t (by omega) (by omega)]
    exact key _ _ (off4_eq t) (off5_eq t) _ _

/-- The sums over rows of the blocks so far. -/
theorem dga_at (c : Dev nD) (n : ℕ) (hn : n ≤ 385) (j : Fin 16) (s : Fin 8) (q : Fin 512) :
    (stAt m c n).dga (ix3 j s q)
      = ∑ t ∈ range n, if j = prv t then ∑ a : Fin 64, E' (args m c) t (a.val * 8 + s.val) q.val else 0 := by
  induction n with
  | zero => exact (pay4_apply (ix3 j s q)).trans (Finset.sum_range_zero _).symm
  | succ n ih =>
    have hN : n < cfg0.N := by rw [N_eq]; omega
    rw [Finset.sum_range_succ, ← ih (by omega)]
    exact dga_step m c ⟨n, hN⟩ (by show n ≤ 384; omega) j s q

end Cert.DxIdeal.Val

end
-- ==== Proof.DxValue.lean ====
module

public import proofs.«01_k».proof.Proof.DxScratch

/-! # What the kernel leaves

The closed forms of the scratch, gathered over all columns and over all rows, are the sums that the two results are
stated with. -/

set_option maxRecDepth 16384

noncomputable section

@[expose] public section

namespace Cert.DxIdeal.Val

open Idealize.ShloMosaic Idealize.ShloMosaic.TcCoe Idealize.ShloMosaic.Tactic
open Cert.DxIdeal Cert.DxIdeal.Gen Cert.DxIdeal.Hand
open Cert.DxRefIdeal.Val (Args bt ps cl DX DG)
open Finset (range)

/-! ## Sums by blocks -/

/-- A sum over `a * b` numbers, in `a` runs of `b`. -/
theorem sum_runs (f : ℕ → EReal) (a b : ℕ) : ∑ d ∈ range (a * b), f d = ∑ u ∈ range a, ∑ v ∈ range b, f (u * b + v) := by
  induction a with
  | zero => rw [Nat.zero_mul, Finset.sum_range_zero, Finset.sum_range_zero]
  | succ a ih => rw [Nat.succ_mul, Finset.sum_range_add, ih, Finset.sum_range_succ]

/-- A sum over `a * b` numbers, by the remainder modulo `b` first. -/
theorem sum_lanes (f : ℕ → EReal) (a b : ℕ) : ∑ d ∈ range (a * b), f d = ∑ v : Fin b, ∑ u : Fin a, f (u.val * b + v.val) := by
  rw [sum_runs, Finset.sum_comm, Finset.sum_range]
  exact Finset.sum_congr rfl fun v _ => Finset.sum_range _

/-- A sum over 8192 columns, in the order the kernel adds them up. -/
theorem sum_cols (f : ℕ → EReal) : ∑ l : Fin 128, ∑ u ∈ range 16, ∑ k : Fin 4, f (u * 512 + (k.val * 128 + l.val)) = ∑ d ∈ range 8192, f d := by
  rw [show (8192 : ℕ) = 16 * 512 from rfl, sum_runs, Finset.sum_comm]
  refine Finset.sum_congr rfl fun u _ => ?_
  rw [show (512 : ℕ) = 4 * 128 from rfl]
  exact (sum_lanes (fun v => f (u * (4 * 128) + v)) 4 128).symm

/-- A sum over 12288 rows, in the order the kernel adds them up. -/
theorem sum_rows (f : ℕ → EReal) : ∑ s : Fin 8, ∑ b ∈ range 24, ∑ a : Fin 64, f (b * 512 + (a.val * 8 + s.val)) = ∑ n ∈ range 12288, f n := by
  rw [show (12288 : ℕ) = 24 * 512 from rfl, sum_runs, Finset.sum_comm]
  refine Finset.sum_congr rfl fun b _ => ?_
  rw [show (512 : ℕ) = 64 * 8 from rfl]
  exact (sum_lanes (fun v => f (b * (64 * 8) + v)) 64 8).symm

variable (m : (ℓ : Loc nD τ sig) → Buf (Elt Ideal) ℓ)

/-! ## The row means -/

theorem G'_eq (A : Args) (b u p l : ℕ) (hu : u < 16) : G' A (b * 16 + u + 1) p l
    = ∑ k : Fin 4, A.P (b * 512 + p) (u * 512 + (k.val * 128 + l)) * A.X (b * 512 + p) (u * 512 + (k.val * 128 + l)) * A.gm (u * 512 + (k.val * 128 + l)) := by
  unfold G' E
  rw [if_neg (Nat.succ_ne_zero _), Nat.add_sub_cancel, show (b * 16 + u) / 16 = b by omega, show (b * 16 + u) % 16 = u by omega]

/-- A band's row means, where they are formed. -/
theorem mean_new (c : Dev nD) (b : ℕ) (hb : b < 24) (p : Fin 512) :
    (stAt m c (b * 16 + 16 + 1)).mean (ix2 p 0) = (args m c).mu (b * 512 + p.val) := by
  refine (mean_step m c ⟨b * 16 + 16, by rw [N_eq]; omega⟩ (by show b * 16 + 16 ≤ 384; omega) (by show (b * 16 + 16) % 16 = 0; omega) p).trans ?_
  unfold Args.mu
  refine congrArg (fun z : EReal => z * _) ?_
  rw [← sum_cols]
  refine Finset.sum_congr rfl fun l _ => ?_
  show (stAt m c (b * 16 + 15 + 1)).sum (ix2 p l) + G' (args m c) (b * 16 + 15 + 1) p.val l.val = _
  rw [sum_at m c (b * 16 + 15) (by omega) p l, show (b * 16 + 15) % 16 = 15 by omega, show (b * 16 + 15) / 16 = b by omega,
    ← Finset.sum_range_succ (fun u => G' (args m c) (b * 16 + u + 1) p.val l.val)]
  exact Finset.sum_congr rfl fun u hu => G'_eq (args m c) b u p.val l.val (Finset.mem_range.1 hu)

/-- A band's row means, through the band after it. -/
theorem mean_at (c : Dev nD) (b : ℕ) (hb : b < 24) (j : ℕ) (hj : j < 16) (p : Fin 512) :
    (stAt m c (b * 16 + 16 + j + 1)).mean (ix2 p 0) = (args m c).mu (b * 512 + p.val) := by
  induction j with
  | zero => exact mean_new m c b hb p
  | succ j ih =>
    have hk := mean_keep m c ⟨b * 16 + 16 + j + 1, by rw [N_eq]; omega⟩ (by show (b * 16 + 16 + j + 1) % 16 ≠ 0; omega)
    exact (congrFun hk (ix2 p 0)).trans (ih (by omega))

/-! ## The first result -/

theorem out_at (c : Dev nD) (t : Fin cfg0.N) (h : 16 ≤ t.val) (p q : Fin 512) :
    outAt m c t (ix2 p q) = (args m c).dx ((t.val / 16 - 1) * 512 + p.val) (t.val % 16 * 512 + q.val) := by
  have hN : t.val < 400 := lt_N t.isLt
  have hm : (stAt m c (t.val + 1)).mean (ix2 p 0) = (args m c).mu ((t.val / 16 - 1) * 512 + p.val) := by
    have e := mean_at m c (t.val / 16 - 1) (by omega) (t.val % 16) (by omega) p
    rwa [show (t.val / 16 - 1) * 16 + 16 + t.val % 16 = t.val by omega] at e
  have ha : (stAt m c t.val).acc (ix3 (cur t.val) p q) = (args m c).P ((t.val / 16 - 1) * 512 + p.val) (t.val % 16 * 512 + q.val) := by
    have e := acc_at m c t.val (by omega) (t.val - 16) (by omega) (by omega) (by omega) p q
    rwa [show cur (t.val - 16) = cur t.val from Fin.ext (by show (t.val - 16) % 16 = t.val % 16; omega),
      show (t.val - 16) / 16 = t.val / 16 - 1 by omega, show (t.val - 16) % 16 = t.val % 16 by omega] at e
  have key : ∀ (off : Fin 3 → ℕ) (ho : off = ![(cur t.val).val, 0, 0]) (inb),
      k0_pay5 (F := Ideal) (k0_pay17 (iblk m c 7 t) (iblk m c 8 t) (iblk m c 9 t))
        (k0_pay18 (View.ld (stAt m c t.val).acc (Rect.unit (s := S16x512x512) off S1x512x512.size inb)) (iblk m c 10 t)) (k0_pay19 (iblk m c 9 t))
        (stAt m c (t.val + 1)).mean (ix2 p q)
      = (args m c).dx ((t.val / 16 - 1) * 512 + p.val) (t.val % 16 * 512 + q.val) := by
    intro off ho inb
    refine (pay5_apply _ _ _ _ _ _ _).trans ?_
    refine congrArg₂ (fun a b : EReal => a * b) (rd9 m c t h p) (congrArg₂ (fun a b : EReal => a - b)
      (congrArg₂ (fun a b : EReal => a * b) ((ld_block (a := 512) (stAt m c t.val).acc (cur t.val) off ho inb 0 p q).trans ha) (rd10 m c t h q))
      (congrArg₂ (fun a b : EReal => a * b) (congrArg₂ (fun a b : EReal => a * b) (congrArg₂ (fun a b : EReal => a * b) (rd7 m c t h p q) (rd8 m c t h p)) (rd9 m c t h p)) hm))
  unfold outAt
  by_cases hl : t.val < 384
  · rw [dif_pos ((cond2_iff t).2 hl)]
    have e := key _ (off3_eq t) (k0_off3_inb _ ((cond2_iff t).2 hl))
    rw [step_lt m c t hl] at e
    exact e
  · rw [dif_neg (fun e => hl ((cond2_iff t).1 e))]
    have e := key _ (off6_eq t) (k0_off6_inb _ ((cond3_iff t).2 (not_lt.1 hl)))
    rw [← acc_keep m c t (not_lt.1 hl)] at e
    exact e

theorem out_point (c : Dev nD) (t : Fin cfg0.N) (h : 16 ≤ t.val) (y : S512x512.Idx) :
    outAt m c t y = (args m c).dx ((t.val / 16 - 1) * 512 + (y 0).val) (t.val % 16 * 512 + (y 1).val) := by
  have ey : y = ix2 (y 0) (y 1) := funext fun i => by fin_cases i <;> rfl
  exact (congrArg (outAt m c t) ey).trans (out_at m c t h (y 0) (y 1))

/-- What the kernel leaves in its first result. -/
theorem final_dx (c : Dev nD) : (dats m 0 c).arrAt 11 cfg0.N = DX (args m c) := by
  refine (dats m 0 c).arrAt_eq_of_covers 11 _ (by decide +kernel) fun t hf y => ?_
  have h := flush_out t hf
  have e0 : ((((cfg0.win 11).blk t).view.emb y) 0).val = (t.val / 16 - 1) * 512 + (y 0).val := by blk_simp [idx_out t h]
  have e1 : ((((cfg0.win 11).blk t).view.emb y) 1).val = t.val % 16 * 512 + (y 1).val := by blk_simp [idx_out t h]
  have hr : DX (args m c) (((cfg0.win 11).blk t).view.emb y) = outAt m c t y :=
    (congrArg₂ (args m c).dx e0 e1).trans (out_point m c t h y).symm
  blk_simp
  rw [after0_11]
  exact hr.symm

/-! ## The second result -/

theorem idx_sums : ∀ t : Fin cfg0.N, win0_12.index t = ![0, 0, 0] :=
  (by decide +kernel : ∀ t : Fin grid0.N, _)

theorem dg_at (c : Dev nD) (y : S16x1x512.Idx) : dgC (stAt m c 385) y = DG (args m c) y := by
  refine (pay9_apply _ _).trans ?_
  show _ = ∑ n ∈ range 12288, (args m c).P n ((y 0).val * 512 + (y 2).val) * (args m c).X n ((y 0).val * 512 + (y 2).val)
  rw [← sum_rows]
  refine Finset.sum_congr rfl fun s _ => ?_
  refine (dga_at m c 385 (le_refl _) (y 0) s (y 2)).trans ?_
  rw [Finset.sum_range_succ', show (384 : ℕ) = 24 * 16 from rfl, sum_runs]
  refine (congrArg₂ (fun a b : EReal => a + b) (Finset.sum_congr rfl fun b hb => ?_) ?_).trans (add_zero _)
  · refine (Finset.sum_eq_single (y 0).val (fun u hu hne => ?_) (fun hn => absurd (Finset.mem_range.2 (y 0).isLt) hn)).trans ?_
    · refine if_neg fun e => hne ?_
      have e' : (y 0).val = (b * 16 + u + 1 + 15) % 16 := congrArg Fin.val e
      have hu' : u < 16 := Finset.mem_range.1 hu
      omega
    · have hy : (y 0).val < 16 := (y 0).isLt
      refine (if_pos (Fin.ext (by show (y 0).val = (b * 16 + (y 0).val + 1 + 15) % 16; omega))).trans (Finset.sum_congr rfl fun a _ => ?_)
      unfold E' E
      rw [if_neg (Nat.succ_ne_zero _), Nat.add_sub_cancel, show (b * 16 + (y 0).val) / 16 = b by omega, show (b * 16 + (y 0).val) % 16 = (y 0).val by omega]
  · by_cases e : y 0 = prv 0
    · refine (if_pos e).trans (Finset.sum_eq_zero fun a _ => if_pos rfl)
    · exact if_neg e

/-- What the kernel leaves in its second result. -/
theorem final_dg (c : Dev nD) : (dats m 0 c).arrAt 12 cfg0.N = DG (args m c) := by
  refine (dats m 0 c).arrAt_eq_of_covers 12 _ (by decide +kernel) fun t _ y => ?_
  have hr : DG (args m c) (((cfg0.win 12).blk t).view.emb y) = dgC (stAt m c 385) y := by
    rw [dg_at]
    refine congrArg (DG (args m c)) (funext fun i => Fin.ext ?_)
    fin_cases i <;> blk_simp [idx_sums t]
  blk_simp
  rw [after0_12]
  exact hr.symm

end Cert.DxIdeal.Val

end
-- ==== Proof.DxRef.lean ====
module

public import proofs.«01_k».proof.Proof.DxSpec

/-! # What the reference computes

The reference widens the codes in one plain call and then follows the mathematics line by line. Its results, read entry
by entry, are the sums of `DxSpec`. -/

set_option maxRecDepth 16384

noncomputable section

@[expose] public section

namespace Cert.DxRefIdeal.Val

open Idealize.ShloMosaic Idealize.ShloMosaic.TcCoe Idealize.ShloMosaic.Tactic
open Cert.DxRefIdeal Cert.DxRefIdeal.Gen
open Idealize.ShloMosaic.Pipeline (Dat)
open Finset (range)

variable (m : (ℓ : Loc nD τ sig) → Buf (Elt Ideal) ℓ)

/-- The operands as the reference is handed them. -/
def args (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6)⟩

/-! ## The plain call -/

theorem idx : ∀ t : Fin cfg0.N, win0_0.index t = ![0, 0, 0] ∧ win0_1.index t = ![0, 0] ∧ win0_2.index t = ![0, 0, 0]
    ∧ win0_3.index t = ![0, 0] :=
  (by decide +kernel : ∀ t : Fin grid0.N, _)

/-- The widened codes of the activations are the codes. -/
theorem wide_x (c : Dev nD) : (dats m 0 c).arrAt 2 cfg0.N = (args m c).x := by
  refine (dats m 0 c).arrAt_eq_of_after_last 2 t0_0 (by decide +kernel) _ fun j => ?_
  blk_simp
  rw [after0_2]
  frame_out
  pointwise [k0_pay1]
  blk_point [iblk, V, idx t0_0]

/-- The widened codes of the matrix are the codes. -/
theorem wide_w (c : Dev nD) : (dats m 0 c).arrAt 3 cfg0.N = (args m c).w := by
  refine (dats m 0 c).arrAt_eq_of_after_last 3 t0_0 (by decide +kernel) _ fun j => ?_
  blk_simp
  rw [after0_3]
  frame_out
  pointwise [k0_pay2]
  blk_point [iblk, V, idx t0_0]

/-! ## The host's lines -/

/-- The normalised activations. -/
def Nrm (xw : FVec Ideal S2x6144x8192 .f32) (s r : FVec Ideal S2x6144 .f32) : FVec Ideal S2x6144x8192 .f32 :=
  mulf (mulf xw (broadcastInDim S2x6144x8192 ![0, 1, 2] bcast_S2x6144x1_S2x6144x8192_0_1_2 (broadcastInDim S2x6144x1 ![0, 1] bcast_S2x6144_S2x6144x1_0_1 s)))
    (broadcastInDim S2x6144x8192 ![0, 1, 2] bcast_S2x6144x1_S2x6144x8192_0_1_2 (broadcastInDim S2x6144x1 ![0, 1] bcast_S2x6144_S2x6144x1_0_1 r))

/-- The product with the scaled matrix. -/
def Prd (ww : FVec Ideal S8192x10240 .bf16) (v : FVec Ideal S10240 .f32) (q : FVec Ideal S2x6144x10240 .bf16) : FVec Ideal S2x6144x8192 .f32 :=
  Host.dotGeneral dot_S2x6144x10240_S8192x10240_S2x6144x8192_2_1_01_0_n_n none q
    (mulf ww (broadcastInDim S8192x10240 ![0, 1] bcast_S1x10240_S8192x10240_0_1 (broadcastInDim S1x10240 ![1] bcast_S10240_S1x10240_1 (truncf .bf16 v bitsLt_bf16_f32))))

/-- The second result of the product and the normalised activations. -/
def HDG (p n : FVec Ideal S2x6144x8192 .f32) : FVec Ideal S16x1x512 .f32 :=
  shapeCast S16x1x512 (Host.reduceAdd (mulf p n) (constant S_ .f32 0x00000000#32) reducesTo_S2x6144x8192_S8192_d0_1 h_S_ : FVec Ideal S8192 .f32) shapeCasts_S8192_S16x1x512

/-- The product weighted by column. -/
def Gw (p : FVec Ideal S2x6144x8192 .f32) (g : FVec Ideal S8192 .f32) : FVec Ideal S2x6144x8192 .f32 :=
  mulf p (broadcastInDim S2x6144x8192 ![0, 1, 2] bcast_S1x1x8192_S2x6144x8192_0_1_2 (broadcastInDim S1x1x8192 ![2] bcast_S8192_S1x1x8192_2 g))

/-- The first result of the weighted product, the normalised activations and the reciprocal deviations. -/
def HDX (w n : FVec Ideal S2x6144x8192 .f32) (r : FVec Ideal S2x6144 .f32) : FVec Ideal S12288x8192 .bf16 :=
  shapeCast S12288x8192 (truncf .bf16 (mulf
    (broadcastInDim S2x6144x8192 ![0, 1, 2] bcast_S2x6144x1_S2x6144x8192_0_1_2 (broadcastInDim S2x6144x1 ![0, 1] bcast_S2x6144_S2x6144x1_0_1 r))
    (subf w (mulf n (broadcastInDim S2x6144x8192 ![0, 1, 2] bcast_S2x6144x1_S2x6144x8192_0_1_2 (Host.divf
      (broadcastInDim S2x6144x1 ![0, 1] bcast_S2x6144_S2x6144x1_0_1 (Host.reduceAdd (mulf w n) (constant S_ .f32 0x00000000#32) reducesTo_S2x6144x8192_S2x6144_d2 h_S_ : FVec Ideal S2x6144 .f32))
      (broadcastInDim S2x6144x1 ![] bcast_S_S2x6144x1 (constant S_ .f32 0x46000000#32))))))) bitsLt_bf16_f32) shapeCasts_S2x6144x8192_S12288x8192

set_option maxHeartbeats 4000000 in
theorem tail_dx (U : Valuation τ sig (Elt Ideal)) : StableHlo.after hostOps1 U (Proc.devRef .tc main_v29)
    = HDX (Gw (Prd (U (Proc.devRef .tc main_v0_1)) (U (Proc.devRef .tc main_arg5)) (U (Proc.devRef .tc main_arg6))) (U (Proc.devRef .tc main_arg3)))
        (Nrm (U (Proc.devRef .tc main_v0_0)) (U (Proc.devRef .tc main_arg1)) (U (Proc.devRef .tc main_arg2))) (U (Proc.devRef .tc main_arg2)) := by
  unfold hostOps1
  simp only [StableHlo.after_cons, StableHlo.after_nil]
  after_results_simp
  rfl

set_option maxHeartbeats 4000000 in
theorem tail_dg (U : Valuation τ sig (Elt Ideal)) : StableHlo.after hostOps1 U (Proc.devRef .tc main_v30)
    = HDG (Prd (U (Proc.devRef .tc main_v0_1)) (U (Proc.devRef .tc main_arg5)) (U (Proc.devRef .tc main_arg6)))
        (Nrm (U (Proc.devRef .tc main_v0_0)) (U (Proc.devRef .tc main_arg1)) (U (Proc.devRef .tc main_arg2))) := by
  unfold hostOps1
  simp only [StableHlo.after_cons, StableHlo.after_nil]
  after_results_simp
  rfl

/-! ## Entry by entry -/

theorem Nrm_apply (x : FVec Ideal S2x6144x8192 .fp8e4m3) (s r : FVec Ideal S2x6144 .f32) (y : S2x6144x8192.Idx) :
    Nrm x s r y = x y * s (ix2 (y 0) (y 1)) * r (ix2 (y 0) (y 1)) := by
  pointwise [Nrm]

theorem Prd_apply (w : FVec Ideal S8192x10240 .fp8e4m3) (v : FVec Ideal S10240 .f32) (q : FVec Ideal S2x6144x10240 .bf16) (y : S2x6144x8192.Idx) :
    Prd w v q y = ∑ k : Fin 10240, q (ix3 (y 0) (y 1) k) * (w (ix2 (y 2) k) * v (ix1 k)) := by
  pointwise [Prd]

theorem Gw_apply (p : FVec Ideal S2x6144x8192 .f32) (g : FVec Ideal S8192 .f32) (y : S2x6144x8192.Idx) :
    Gw p g y = p y * g (ix1 (y 2)) := by
  pointwise [Gw]

/-- A sum over the first two axes, entry by entry. -/
theorem sum_rows (x : FVec Ideal S2x6144x8192 .f32) (init : EReal) (j : S8192.Idx) :
    Ideal.hostReduceAdd reducesTo_S2x6144x8192_S8192_d0_1 x init j = init + ∑ b : Fin 2, ∑ k : Fin 6144, x (ix3 b k (j 0)) := by
  refine congrArg (init + ·) ?_
  refine (Finset.sum_filter_eq_sum_of_fiber _ (fun k : Fin 2 × Fin 6144 => (ix3 k.1 k.2 (j 0) : S2x6144x8192.Idx))
    (fun _ _ e => Prod.ext (congrFun e 0) (congrFun e 1)) (fun i => ?_) x).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

theorem HDG_apply (p n : FVec Ideal S2x6144x8192 .f32) (y : S16x1x512.Idx) :
    HDG p n y = ∑ b : Fin 2, ∑ k : Fin 6144, p (ix3 b k (cl ((y 0).val * 512 + (y 2).val))) * n (ix3 b k (cl ((y 0).val * 512 + (y 2).val))) := by
  have e : (⟨(y 0).val * 512 + (y 2).val, by have := (y 0).isLt; have := (y 2).isLt; have : S16x1x512.size 0 = 16 := rfl; have : S16x1x512.size 2 = 512 := rfl; omega⟩ : Fin 8192)
      = cl ((y 0).val * 512 + (y 2).val) :=
    Fin.ext (Nat.mod_eq_of_lt (by have := (y 0).isLt; have := (y 2).isLt; have : S16x1x512.size 0 = 16 := rfl; have : S16x1x512.size 2 = 512 := rfl; omega)).symm
  rw [← e]
  pointwise [HDG]
  rw [sum_rows]
  pointwise

/-- Dividing by the row's length is multiplying by its reciprocal. -/
theorem div_mean (x : EReal) : Ideal.div x (Ideal.ofBits .f32 0x46000000#32) = x * Ideal.ofBits .f32 0x39000000#32 := by
  have e1 : Ideal.ofBits .f32 0x46000000#32 = ((8192 : ℝ) : EReal) := by
    simp [Ideal.ofBits, Ideal.ieee, -EReal.coe_mul]; norm_num
  have e2 : Ideal.ofBits .f32 0x39000000#32 = ((1 / 8192 : ℝ) : EReal) := by
    simp [Ideal.ofBits, Ideal.ieee, -EReal.coe_mul]; norm_num
  rw [e1, e2, Ideal.div_coe (by norm_num)]

theorem HDX_apply (w n : FVec Ideal S2x6144x8192 .f32) (r : FVec Ideal S2x6144 .f32) (y : S12288x8192.Idx) :
    HDX w n r y = r (ix2 (bt (y 0).val) (ps (y 0).val)) * (w (ix3 (bt (y 0).val) (ps (y 0).val) (y 1)) - n (ix3 (bt (y 0).val) (ps (y 0).val) (y 1))
      * ((∑ d : Fin 8192, w (ix3 (bt (y 0).val) (ps (y 0).val) d) * n (ix3 (bt (y 0).val) (ps (y 0).val) d)) * Ideal.ofBits .f32 0x39000000#32)) := by
  have e : bt (y 0).val = ⟨(y 0).val / 6144, Nat.div_lt_of_lt_mul (y 0).isLt⟩ :=
    Fin.ext (Nat.mod_eq_of_lt (Nat.div_lt_of_lt_mul (y 0).isLt))
  rw [e, show ps (y 0).val = ⟨(y 0).val % 6144, Nat.mod_lt _ (by decide)⟩ from rfl]
  pointwise [HDX]
  rw [div_mean]

/-! ## The results -/

/-- The contents the host's lines start from, at a buffer the call does not write. -/
theorem entry (c : Dev nD) (b : Ref sig .tc) (h : ∀ w, Pipeline.arrRef spec0 w ≠ b) :
    Pipeline.withArrays spec0 c (V0 m c) (fun w => (dats m 0 c).arrAt w cfg0.N) (Proc.devRef .tc b) = V m c b :=
  Pipeline.withArrays_of_ne _ c (V0 m c) _ b h

/-- The contents the host's lines start from, at a buffer of the call. -/
theorem entry_arr (c : Dev nD) (w : Fin 4) :
    Pipeline.withArrays spec0 c (V0 m c) (fun w => (dats m 0 c).arrAt w cfg0.N) (Proc.devRef .tc (Pipeline.arrRef spec0 w)) = (dats m 0 c).arrAt w cfg0.N :=
  Pipeline.withArrays_arr spec0 (by decide) c (V0 m c) _ w

theorem HDX_eq (A : Args) : HDX (Gw (Prd A.w A.v A.q) A.g) (Nrm A.x A.s A.r) A.r = DX A := by
  funext y
  have hw : ∀ d : Fin 8192, Gw (Prd A.w A.v A.q) A.g (ix3 (bt (y 0).val) (ps (y 0).val) d) = A.P (y 0).val d.val * A.gm d.val := fun d => by
    have ed : cl d.val = d := Fin.ext (Nat.mod_eq_of_lt d.isLt)
    rw [Gw_apply, Prd_apply]
    unfold Args.P Args.gm
    rw [ed]
    rfl
  have hn : ∀ d : Fin 8192, Nrm A.x A.s A.r (ix3 (bt (y 0).val) (ps (y 0).val) d) = A.X (y 0).val d.val := fun d => by
    have ed : cl d.val = d := Fin.ext (Nat.mod_eq_of_lt d.isLt)
    rw [Nrm_apply]
    unfold Args.X Args.rs
    rw [ed]
    rfl
  have hs : (∑ d : Fin 8192, Gw (Prd A.w A.v A.q) A.g (ix3 (bt (y 0).val) (ps (y 0).val) d) * Nrm A.x A.s A.r (ix3 (bt (y 0).val) (ps (y 0).val) d))
      = ∑ d ∈ range 8192, A.P (y 0).val d * A.X (y 0).val d * A.gm d := by
    rw [Finset.sum_range]
    exact Finset.sum_congr rfl fun d _ => by rw [hw d, hn d, mul_right_comm]
  rw [HDX_apply, hs, hn (y 1), hw (y 1)]
  rfl

theorem HDG_eq (A : Args) : HDG (Prd A.w A.v A.q) (Nrm A.x A.s A.r) = DG A := by
  funext y
  rw [HDG_apply]
  show _ = ∑ n ∈ range 12288, A.P n ((y 0).val * 512 + (y 2).val) * A.X n ((y 0).val * 512 + (y 2).val)
  generalize (y 0).val * 512 + (y 2).val = d
  have hr : ∀ b : Fin 2, ∀ k : Fin 6144, Prd A.w A.v A.q (ix3 b k (cl d)) * Nrm A.x A.s A.r (ix3 b k (cl d))
      = A.P (b.val * 6144 + k.val) d * A.X (b.val * 6144 + k.val) d := fun b k => by
    have eb : bt (b.val * 6144 + k.val) = b := Fin.ext (by show (b.val * 6144 + k.val) / 6144 % 2 = b.val; omega)
    have ek : ps (b.val * 6144 + k.val) = k := Fin.ext (by show (b.val * 6144 + k.val) % 6144 = k.val; omega)
    rw [Prd_apply, Nrm_apply]
    unfold Args.P Args.X Args.rs
    rw [eb, ek]
    rfl
  rw [Finset.sum_congr rfl fun b _ => Finset.sum_congr rfl fun k _ => hr b k]
  rw [Fin.sum_univ_two, ← Finset.sum_range (fun k => A.P ((0 : Fin 2).val * 6144 + k) d * A.X ((0 : Fin 2).val * 6144 + k) d),
    ← Finset.sum_range (fun k => A.P ((1 : Fin 2).val * 6144 + k) d * A.X ((1 : Fin 2).val * 6144 + k) d),
    show (12288 : ℕ) = 6144 + 6144 from rfl, Finset.sum_range_add]
  simp

/-- What the reference leaves in its first result. -/
theorem final_dx (c : Dev nD) : Pipeline.afterTail₀ cfgs (dats m) 0 (V0 m) [hostOps1] c main_v29 = DX (args m c) := by
  unfold Pipeline.afterTail₀
  rw [show [hostOps1].flatten = (hostOps1 : List (HloOp τ sig (Elt Ideal))) from List.append_nil _, tail_dx]
  refine Eq.trans ?_ (HDX_eq (args m c))
  have e2 := (entry_arr m c 2).trans (wide_x m c)
  have e3 := (entry_arr m c 3).trans (wide_w m c)
  have a1 := entry m c main_arg1 (by decide)
  have a2 := entry m c main_arg2 (by decide)
  have a3 := entry m c main_arg3 (by decide)
  have a5 := entry m c main_arg5 (by decide)
  have a6 := entry m c main_arg6 (by decide)
  exact congr (congr (congrArg HDX (congr (congrArg Gw (congr (congr (congrArg Prd e3) a5) a6)) a3)) (congr (congr (congrArg Nrm e2) a1) a2)) a2

/-- What the reference leaves in its second result. -/
theorem final_dg (c : Dev nD) : Pipeline.afterTail₀ cfgs (dats m) 0 (V0 m) [hostOps1] c main_v30 = DG (args m c) := by
  unfold Pipeline.afterTail₀
  rw [show [hostOps1].flatten = (hostOps1 : List (HloOp τ sig (Elt Ideal))) from List.append_nil _, tail_dg]
  refine Eq.trans ?_ (HDG_eq (args m c))
  have e2 := (entry_arr m c 2).trans (wide_x m c)
  have e3 := (entry_arr m c 3).trans (wide_w m c)
  have a1 := entry m c main_arg1 (by decide)
  have a2 := entry m c main_arg2 (by decide)
  have a5 := entry m c main_arg5 (by decide)
  have a6 := entry m c main_arg6 (by decide)
  exact congr (congrArg HDG (congr (congr (congrArg Prd e3) a5) a6)) (congr (congr (congrArg Nrm e2) a1) a2)

end Cert.DxRefIdeal.Val

end
-- ==== Proof.DxClaim.lean ====
module

public import proofs.«01_k».proof.Defs
public import proofs.«01_k».proof.Proof.DxValue
public import proofs.«01_k».proof.Proof.DxRef
public import Idealize.ShloMosaic.Lib.Claim

/-! # The kernel and the reference agree over the reals -/

set_option maxRecDepth 16384

open Idealize.ShloMosaic Idealize.ShloMosaic.TcCoe Idealize.ShloMosaic.Tactic Idealize.SL.Sem

noncomputable section

@[expose] public section

set_option maxHeartbeats 4000000 in
/-- The two programs leave equal results when they start from equal arguments. -/
theorem Cert.DxIdeal.Val.algebraic : Cert.algebraic_DxIdeal_DxRefIdeal := by
  pair_intro
  · run_from Cert.DxIdeal.Hand.run_main m g
  · have hargs : ∀ c, Cert.DxRefIdeal.Val.args m' c = Cert.DxIdeal.Val.args m c := fun c =>
      Cert.DxRefIdeal.Val.Args.ext (hagree c).1 (hagree c).2.1 (hagree c).2.2.1 (hagree c).2.2.2.1 (hagree c).2.2.2.2.1 (hagree c).2.2.2.2.2.1 (hagree c).2.2.2.2.2.2
    run_from Cert.DxRefIdeal.Gen.run_main m' g'
    · exact (Cert.DxRefIdeal.Val.final_dx m' _).trans ((congrArg Cert.DxRefIdeal.Val.DX (hargs _)).trans (Cert.DxIdeal.Val.final_dx m _).symm)
    · exact (Cert.DxRefIdeal.Val.final_dg m' _).trans ((congrArg Cert.DxRefIdeal.Val.DG (hargs _)).trans (Cert.DxIdeal.Val.final_dg m _).symm)
    · exact (Cert.DxRefIdeal.Gen.W_main_arg1 m' _ _).trans (hagree _).2.1
    · exact (Cert.DxRefIdeal.Gen.W_main_arg2 m' _ _).trans (hagree _).2.2.1
    · exact (Cert.DxRefIdeal.Gen.W_main_arg3 m' _ _).trans (hagree _).2.2.2.1
    · exact (Cert.DxRefIdeal.Gen.W_main_arg5 m' _ _).trans (hagree _).2.2.2.2.2.1
    · exact (Cert.DxRefIdeal.Gen.W_main_arg6 m' _ _).trans (hagree _).2.2.2.2.2.2

end
-- ==== Proof.lean ====
module

public import proofs.«01_k».proof.Defs
public import proofs.«01_k».proof.Proof.Gen.Dw
public import proofs.«01_k».proof.Proof.Gen.Dw.Frame
public import proofs.«01_k».proof.Proof.Gen.DwIdeal
public import proofs.«01_k».proof.Proof.Gen.DwIdeal.Frame
public import proofs.«01_k».proof.Proof.Gen.DwRefIdeal
public import proofs.«01_k».proof.Proof.Gen.DwRefIdeal.Frame
public import proofs.«01_k».proof.Proof.Gen.Qu
public import proofs.«01_k».proof.Proof.Gen.Qu.Frame
public import proofs.«01_k».proof.Proof.Gen.QuIdeal
public import proofs.«01_k».proof.Proof.Gen.QuIdeal.Frame
public import proofs.«01_k».proof.Proof.Gen.QuRefIdeal
public import proofs.«01_k».proof.Proof.Gen.QuRefIdeal.Frame
public import proofs.«01_k».proof.Proof.DwClaim
public import proofs.«01_k».proof.Proof.QuClaim
public import proofs.«01_k».proof.Proof.DxRun
public import proofs.«01_k».proof.Proof.DxIdealRun
public import proofs.«01_k».proof.Proof.DxClaim
public import proofs.«01_k».proof.Proof.Gen.DxRefIdeal
public import proofs.«01_k».proof.Proof.Gen.DxRefIdeal.Frame
public import Idealize.ShloMosaic.Adequacy
public import Idealize.ShloMosaic.Init

@[expose] public section

noncomputable section

namespace Cert.Proof

open Idealize.ShloMosaic Idealize.SL.Sem

theorem claim : Cert.Claim :=
  ⟨Cert.Dw.Gen.facts, Cert.DwIdeal.Gen.facts, Cert.DwRefIdeal.Gen.facts, Cert.Qu.Gen.facts, Cert.QuIdeal.Gen.facts, Cert.QuRefIdeal.Gen.facts,
    Cert.Dx.Gen.facts, Cert.DxIdeal.Gen.facts, Cert.DxRefIdeal.Gen.facts,
    fun m ρ _ => Cert.Dw.Gen.frame m ρ,
    fun m ρ _ => Cert.DwIdeal.Gen.frame m ρ,
    fun m ρ _ => Cert.DwRefIdeal.Gen.frame m ρ,
    fun m ρ _ => Cert.Qu.Gen.frame m ρ,
    fun m ρ _ => Cert.QuIdeal.Gen.frame m ρ,
    fun m ρ _ => Cert.QuRefIdeal.Gen.frame m ρ,
    fun m ρ _ => Cert.Dx.Hand.frame m ρ,
    fun m ρ _ => Cert.DxIdeal.Hand.frame m ρ,
    fun m ρ _ => Cert.DxRefIdeal.Gen.frame m ρ,
    trivial, Cert.DwIdeal.Val.algebraic,
    trivial, Cert.QuIdeal.Val.algebraic,
    trivial, Cert.DxIdeal.Val.algebraic⟩

end Cert.Proof

end
